-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S128x100000 : Shape := ⟨2, ![128, 100000]⟩
abbrev S_ : Shape := ⟨0, ![]⟩
abbrev S128 : Shape := ⟨1, ![128]⟩
abbrev S128x1 : Shape := ⟨2, ![128, 1]⟩

class Facts : Prop where
  reducesTo_S128x100000_S128_d1 : S128x100000.ReducesTo [1] S128
  h_S_ : 0 < S_.numel
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  natLt_1_32 : 1 < 32
  bcast_S_S128x100000 : S_.BroadcastsInDim S128x100000 (![] : Fin 0 → Fin S128x100000.rank)
  reducesTo_S128x100000_S_d0_1 : S128x100000.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v9 : IVec S128x100000 32) (main_v14 : IVec S128x100000 1) (main_v16 : IVec S128x100000 1) (main_v18 : IVec S128x100000 1) : IVec S_ 1 :=
  let main_v19 : IVec S128x100000 1 := andi main_v16 main_v18
  let main_v20 : IVec S128x100000 1 := andi main_v14 main_v19
  let main_c : IVec S_ 1 := constantI S_ 1 1#1
  let main_v21 : IVec S_ 1 := (fun x v => Host.reduce IntOp.andi x v reducesTo_S128x100000_S_d0_1 h_S_) main_v20 main_c
  let main_c_4 : IVec S_ 32 := constantI S_ 32 0#32
  let main_v22 : IVec S128 32 := (fun x v => Host.reduce IntOp.addi x v reducesTo_S128x100000_S128_d1 h_S_) main_v9 main_c_4
  let main_c_5 : IVec S_ 32 := constantI S_ 32 1#32
  let main_v23 : IVec S128 32 := broadcastInDim S128 ![] bcast_S_S128 main_c_5
  let main_v24 : IVec S128 1 := cmpi .eq main_v22 main_v23
  let main_c_6 : IVec S_ 1 := constantI S_ 1 1#1
  let main_v25 : IVec S_ 1 := (fun x v => Host.reduce IntOp.andi x v reducesTo_S128_S_d0 h_S_) main_v24 main_c_6
  let main_v26 : IVec S_ 1 := andi main_v21 main_v25
  main_v26

def fn {F : FTy → Type} [FloatOps F] (main_arg0 : FVec F S128x100000 .f32) (main_arg1 : FVec F S128x100000 .f32) : IVec S_ 1 :=
  let main_v0 : FVec F S128x100000 .f32 := Host.log main_arg1
  let main_v1 : FVec F S128x100000 .f32 := Host.negf main_v0
  let main_v2 : FVec F S128x100000 .f32 := Host.log main_v1
  let main_v3 : FVec F S128x100000 .f32 := Host.negf main_v2
  let main_v4 : FVec F S128x100000 .f32 := addf main_v3 main_arg0
  let main_cst : FVec F S_ .f32 := constant S_ .f32 0xFF800000#32
  let main_v5 : FVec F S128 .f32 := (fun x v => Host.reduce FloatOps.maximumf x v reducesTo_S128x100000_S128_d1 h_S_) main_v4 main_cst
  let main_v6 : FVec F S128x1 .f32 := broadcastInDim S128x1 ![0] bcast_S128_S128x1_0 main_v5
  let main_v7 : FVec F S128x100000 .f32 := broadcastInDim S128x100000 ![0, 1] bcast_S128x1_S128x100000_0_1 main_v6
  let main_v8 : IVec S128x100000 1 := cmpf .oeq main_v4 main_v7
  let main_v9 : IVec S128x100000 32 := (extui 32 · natLt_1_32) main_v8
  let main_cst_0 : FVec F S_ .f32 := constant S_ .f32 0xFF800000#32
  let main_v10 : FVec F S128x100000 .f32 := broadcastInDim S128x100000 ![] bcast_S_S128x100000 main_cst_0
  let main_v11 : IVec S128x100000 1 := cmpf .ogt main_arg0 main_v10
  let main_cst_1 : FVec F S_ .f32 := constant S_ .f32 0x7F800000#32
  let main_v12 : FVec F S128x100000 .f32 := broadcastInDim S128x100000 ![] bcast_S_S128x100000 main_cst_1
  let main_v13 : IVec S128x100000 1 := cmpf .olt main_arg0 main_v12
  let main_v14 : IVec S128x100000 1 := andi main_v11 main_v13
  let main_cst_2 : FVec F S_ .f32 := constant S_ .f32 0x00000000#32
  let main_v15 : FVec F S128x100000 .f32 := broadcastInDim S128x100000 ![] bcast_S_S128x100000 main_cst_2
  let main_v16 : IVec S128x100000 1 := cmpf .ogt main_arg1 main_v15
  let main_cst_3 : FVec F S_ .f32 := constant S_ .f32 0x3F800000#32
  let main_v17 : FVec F S128x100000 .f32 := broadcastInDim S128x100000 ![] bcast_S_S128x100000 main_cst_3
  let main_v18 : IVec S128x100000 1 := cmpf .olt main_arg1 main_v17
  fn_part1 (F := F) main_v9 main_v14 main_v16 main_v18
-- ==== Kernel.lean ====
abbrev S128x100000 : Shape := ⟨2, ![128, 100000]⟩
abbrev S100000x128 : Shape := ⟨2, ![100000, 128]⟩
abbrev S1x128 : Shape := ⟨2, ![1, 128]⟩
abbrev S20000x128 : Shape := ⟨2, ![20000, 128]⟩
abbrev S32x128 : Shape := ⟨2, ![32, 128]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S100000x128, .f32⟩
  | .hbm, ⟨3, _⟩ => ⟨S100000x128, .f32⟩
  | .hbm, ⟨4, _⟩ => ⟨S1x128, .i32⟩
  | .hbm, ⟨5, _⟩ => ⟨S1x128, .f32⟩
  | .hbm, ⟨6, _⟩ => ⟨S1x128, .f32⟩
  | .local _ .vmem, ⟨0, _⟩ => ⟨S20000x128, .f32⟩
  | .local _ .vmem, ⟨1, _⟩ => ⟨S20000x128, .f32⟩
  | .local _ .vmem, ⟨2, _⟩ => ⟨S20000x128, .f32⟩
  | .local _ .vmem, ⟨3, _⟩ => ⟨S20000x128, .f32⟩
  | .local _ .vmem, ⟨4, _⟩ => ⟨S1x128, .i32⟩
  | .local _ .vmem, ⟨5, _⟩ => ⟨S1x128, .f32⟩
  | .local _ .vmem, ⟨6, _⟩ => ⟨S1x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32_6 : BitVec 32 := 0#32
  let c625_i32_7 : BitVec 32 := 625#32
  let v13 : BitVec 32 := Scalar.addi c0_i32_6 c625_i32_7
  let c1_i32_8 : BitVec 32 := 1#32
  ⟨c0_i32_6, v13, c1_i32_8⟩
def k0_off1 (k0_t1 : Fin k0_t1_loop.trips) : Fin 2 → Nat :=
  let c0_i32_6 : BitVec 32 := 0#32
  let c1_i32_8 : BitVec 32 := 1#32
  let arg11 : BitVec 32 := Scf.iv c0_i32_6 c1_i32_8 k0_t1
  let c32_i32 : BitVec 32 := 32#32
  let v48 : BitVec 32 := Scalar.muli arg11 c32_i32
  let v49 : Index := Scalar.indexCast v48
  let c0_34 : Index := 0#32
  ![v49.toNat, 0]
def k0_cond2 (i : grid0.Coords) : BitVec 1 :=
  let arg0 : BitVec 32 := BitVec.ofNat 32 (i 0).val
  let c4_i32 : BitVec 32 := 4#32
  let v45 : BitVec 1 := Scalar.cmpi .eq arg0 c4_i32
  let v46 : BitVec 32 := Scalar.extui v45
  let c0_i32_33 : BitVec 32 := 0#32
  let v47 : BitVec 1 := Scalar.cmpi .ne v46 c0_i32_33
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S128x1x1 : Shape := ⟨3, ![128, 1, 1]⟩
abbrev S1 : Shape := ⟨1, ![1]⟩
abbrev S1x1x1 : Shape := ⟨3, ![1, 1, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S_, .f32⟩
  | .hbm, ⟨3, _⟩ => ⟨S128x100000, .f32⟩
  | .hbm, ⟨4, _⟩ => ⟨S128x100000, .f32⟩
  | .hbm, ⟨5, _⟩ => ⟨S_, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S128x1, .f32⟩
  | .hbm, ⟨11, _⟩ => ⟨S128x100000, .f32⟩
  | .hbm, ⟨12, _⟩ => ⟨S128x100000, .f32⟩
  | .hbm, ⟨13, _⟩ => ⟨S128x100000, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S128x1, .f32⟩
  | .hbm, ⟨18, _⟩ => ⟨S128x100000, .f32⟩
  | .hbm, ⟨19, _⟩ => ⟨S128x100000, .f32⟩
  | .hbm, ⟨20, _⟩ => ⟨S128x100000, .f32⟩
  | .hbm, ⟨21, _⟩ => ⟨S128x100000, .f32⟩
  | .hbm, ⟨22, _⟩ => ⟨S128x100000, .f32⟩
  | .hbm, ⟨23, _⟩ => ⟨S_, .f32⟩
  | .hbm, ⟨24, _⟩ => ⟨S128, .f32⟩
  | .hbm, ⟨25, _⟩ => ⟨S128x100000, .f32⟩
  | .hbm, ⟨26, _⟩ => ⟨S128x100000, .f32⟩
  | .hbm, ⟨27, _⟩ => ⟨S128x100000, .f32⟩
  | .hbm, ⟨28, _⟩ => ⟨S128x100000, .f32⟩
  | .hbm, ⟨29, _⟩ => ⟨S128x100000, .f32⟩
  | .hbm, ⟨30, _⟩ => ⟨S128x100000, .i32⟩
  | .hbm, ⟨31, _⟩ => ⟨S_, .f32⟩
  | .hbm, ⟨32, _⟩ => ⟨S_, .i32⟩
  | .hbm, ⟨33, _⟩ => ⟨S128, .f32⟩
  | .hbm, ⟨34, _⟩ => ⟨S128, .i32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128x1, .f32⟩
  | .hbm, ⟨41, _⟩ => ⟨S128x100000, .f32⟩
  | .hbm, ⟨42, _⟩ => ⟨S128x100000, .f32⟩
  | .hbm, ⟨43, _⟩ => ⟨S128x100000, .f32⟩
  | .hbm, ⟨44, _⟩ => ⟨S_, .f32⟩
  | .hbm, ⟨45, _⟩ => ⟨S128, .f32⟩
  | .hbm, ⟨46, _⟩ => ⟨S128x1, .f32⟩
  | .hbm, ⟨47, _⟩ => ⟨S128x1, .f32⟩
  | .hbm, ⟨48, _⟩ => ⟨S128x100000, .f32⟩
  | .hbm, ⟨49, _⟩ => ⟨S128x100000, .f32⟩
  | .hbm, ⟨50, _⟩ => ⟨S128x1, .i32⟩
  | .hbm, ⟨51, _⟩ => ⟨S_, .i32⟩
  | .hbm, ⟨52, _⟩ => ⟨S128x1, .i32⟩
  | .hbm, ⟨53, _⟩ => ⟨S128x1, .i1⟩
  | .hbm, ⟨54, _⟩ => ⟨S_, .i32⟩
  | .hbm, ⟨55, _⟩ => ⟨S128x1, .i32⟩
  | .hbm, ⟨56, _⟩ => ⟨S128x1, .i32⟩
  | .hbm, ⟨57, _⟩ => ⟨S128x1, .i32⟩
  | .hbm, ⟨58, _⟩ => ⟨S128x1x1, .i32⟩
  | .hbm, ⟨59, _⟩ => ⟨S1, .i32⟩
  | .hbm, ⟨60, _⟩ => ⟨S_, .i32⟩
  | .hbm, ⟨61, _⟩ => ⟨S128x1x1, .i32⟩
  | .hbm, ⟨62, _⟩ => ⟨S128x1x1, .i1⟩
  | .hbm, ⟨63, _⟩ => ⟨S1x1x1, .i32⟩
  | .hbm, ⟨64, _⟩ => ⟨S128x1x1, .i32⟩
  | .hbm, ⟨65, _⟩ => ⟨S128x1x1, .i1⟩
  | .hbm, ⟨66, _⟩ => ⟨S128x1x1, .i1⟩
  | .hbm, ⟨67, _⟩ => ⟨S_, .i1⟩
  | .hbm, ⟨68, _⟩ => ⟨S128x1, .i1⟩
  | .hbm, ⟨69, _⟩ => ⟨S128x1, .f32⟩
  | .hbm, ⟨70, _⟩ => ⟨S_, .f32⟩
  | .hbm, ⟨71, _⟩ => ⟨S128x1, .f32⟩
  | .hbm, ⟨72, _⟩ => ⟨S128x1, .f32⟩
  | .hbm, ⟨73, _⟩ => ⟨S128, .f32⟩
  | .hbm, ⟨74, _⟩ => ⟨S1x128, .i32⟩
  | .hbm, ⟨75, _⟩ => ⟨S1x128, .f32⟩
  | .hbm, ⟨76, _⟩ => ⟨S1x128, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_cst : Ref sig .tc := ⟨.hbm, 31, rfl⟩
abbrev main_call1_c : Ref sig .tc := ⟨.hbm, 32, rfl⟩
abbrev main_call1_v1_0 : Ref sig .tc := ⟨.hbm, 33, rfl⟩
abbrev main_v12 : Ref sig .tc := ⟨.hbm, 34, rfl⟩
abbrev main_call2_cst : Ref sig .tc := ⟨.hbm, 35, rfl⟩
abbrev main_call2_v0 : Ref sig .tc := ⟨.hbm, 36, rfl⟩
abbrev main_call2_cst_0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_v6 : Ref sig .tc := ⟨.hbm, 43, rfl⟩
abbrev main_call2_cst_1 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_v13 : Ref sig .tc := ⟨.hbm, 49, rfl⟩
abbrev main_v14 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_call3_c_1 : Ref sig .tc := ⟨.hbm, 59, rfl⟩
abbrev main_call3_c_2 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_call3_c_3 : Ref sig .tc := ⟨.hbm, 67, rfl⟩
abbrev main_call3_v12 : Ref sig .tc := ⟨.hbm, 68, rfl⟩
abbrev main_call3_v13 : Ref sig .tc := ⟨.hbm, 69, rfl⟩
abbrev main_call3_cst : Ref sig .tc := ⟨.hbm, 70, rfl⟩
abbrev main_call3_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩

abbrev nD : Nat := 1
abbrev τ : Topo := Topo.v7x

variable {F : FTy → Type} [FloatOps F]
-- ==== Proof.KernelCases.lean ====
/-
  What each grid step leaves, as the kernel's own payloads: the loop's carried value is one function of the two
  blocks and the step (`loopF`), a step's scratch rows are that value merged into what the step before left
  (`merge…`), and the last step's three results are the final payloads of the merged rows.
-/
module

public import proofs.«01_k».proof.Proof.Gen.KernelIdeal.Value
public import Idealize.ShloMosaic.Lib.Tactic
public import Idealize.ShloMosaic.Lib.Pipeline.ValueKit

@[expose] public section

noncomputable section

namespace Cert.KernelIdeal.Cases

open Cert.KernelIdeal Cert.KernelIdeal.Gen Idealize.ShloMosaic Idealize.ShloMosaic.TcCoe Idealize.SL.Sem

variable {F : FTy → Type} [FloatOps F]

/-- What the loop carries: the exponentials' sum, the weighted sum, the best pair, its chunk and the chunk counter. -/
abbrev Carry (F : FTy → Type) : Type :=
  FVec F S32x128 .f32 × FVec F S32x128 .f32 × FVec F S32x128 .f32 × FVec F S32x128 .f32 × IVec S32x128 32 × IVec S32x128 32

/-- The thirty-two rows of a block that trip `k` reads. -/
def rows (x : Vec F S20000x128 .f32) (k : Fin k0_t1_loop.trips) : Vec F S32x128 .f32 :=
  View.ld x (Rect.unit (s := S20000x128) (k0_off1 k) S32x128.size (k0_off1_inb k))

/-- One trip on the carried value, from the two reads. -/
def yieldF (v w : Vec F S32x128 .f32) (acc : Carry F) : Carry F :=
  (k0_pay27 acc.1 v, k0_pay28 acc.2.1 v, k0_pay31 acc.2.2.1 acc.2.2.2.1 v w, k0_pay32 acc.2.2.1 acc.2.2.2.1 v w,
    k0_pay33 acc.2.2.1 acc.2.2.2.1 acc.2.2.2.2.1 acc.2.2.2.2.2 v w, k0_pay29 acc.2.2.2.2.2)

/-- What the loop carries before trip `n` of a step at coordinates `i` over the blocks `x0` and `x1`. -/
def loopF (i : grid0.Coords) (x0 x1 : Vec F S20000x128 .f32) : Nat → Carry F
  | 0 => (k0_pay18, k0_pay19, k0_pay20, k0_pay21, k0_pay22, k0_pay23 i)
  | n + 1 => if h : n < k0_t1_loop.trips then yieldF (rows x0 ⟨n, h⟩) (rows x1 ⟨n, h⟩) (loopF i x0 x1 n) else loopF i x0 x1 n

/-- What the loop carries after its last trip. -/
def loopEnd (i : grid0.Coords) (x0 x1 : Vec F S20000x128 .f32) : Carry F :=
  loopF i x0 x1 (Scf.trips k0_t1_loop.lb k0_t1_loop.ub k0_t1_loop.st)

/-- A trip's result is `yieldF` of the two reads. -/
theorem trip_yield (𝒱 : Variants) (c : Dev nD) (bd : Option 𝒱.V) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (x0 x1 : Vec F S20000x128 .f32) (k : Fin k0_t1_loop.trips) (acc : Carry F) :
    tripR_k0_t1 (F := F) 𝒱 c bd i arg1 harg1 arg2 harg2 arg3 harg3 arg4 harg4 arg5 harg5 arg6 harg6 arg7 harg7 arg8 harg8 arg9 harg9 arg10 harg10 (harg1.unread x0) (harg2.unread x1) k acc = yieldF (rows x0 k) (rows x1 k) acc := by
  unfold tripR_k0_t1 trip_k0_t1
  dsimp only
  simp only [View.readAt_eq_ld, Memref.IsWhole.read_unread]
  rfl

/-- The run's carried value is `loopF`. -/
theorem st_eq (𝒱 : Variants) (c : Dev nD) (bd : Option 𝒱.V) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (x0 x1 : Vec F S20000x128 .f32) :
    ∀ n, n ≤ k0_t1_loop.trips → st_k0_t1 (F := F) 𝒱 c bd i arg1 harg1 arg2 harg2 arg3 harg3 arg4 harg4 arg5 harg5 arg6 harg6 arg7 harg7 arg8 harg8 arg9 harg9 arg10 harg10 (harg1.unread x0) (harg2.unread x1) (k0_pay18, k0_pay19, k0_pay20, k0_pay21, k0_pay22, k0_pay23 i) n = loopF i x0 x1 n
  | 0, _ => st_k0_t1_zero ..
  | n + 1, h => by
    rw [st_k0_t1_succ 𝒱 c bd i arg1 harg1 arg2 harg2 arg3 harg3 arg4 harg4 arg5 harg5 arg6 harg6 arg7 harg7 arg8 harg8 arg9 harg9 arg10 harg10 _ _ _ ⟨n, h⟩]
    rw [trip_yield]
    show yieldF _ _ (st_k0_t1 (F := F) 𝒱 c bd i arg1 harg1 arg2 harg2 arg3 harg3 arg4 harg4 arg5 harg5 arg6 harg6 arg7 harg7 arg8 harg8 arg9 harg9 arg10 harg10 (harg1.unread x0) (harg2.unread x1) (k0_pay18, k0_pay19, k0_pay20, k0_pay21, k0_pay22, k0_pay23 i) n) = _
    rw [st_eq 𝒱 c bd i arg1 harg1 arg2 harg2 arg3 harg3 arg4 harg4 arg5 harg5 arg6 harg6 arg7 harg7 arg8 harg8 arg9 harg9 arg10 harg10 x0 x1 n (by omega)]
    have h' : n < k0_t1_loop.trips := h
    rw [loopF, dif_pos h']

/-- After the last trip it is `loopEnd`. -/
theorem st_end (𝒱 : Variants) (c : Dev nD) (bd : Option 𝒱.V) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (x0 x1 : Vec F S20000x128 .f32) :
    st_k0_t1 (F := F) 𝒱 c bd i arg1 harg1 arg2 harg2 arg3 harg3 arg4 harg4 arg5 harg5 arg6 harg6 arg7 harg7 arg8 harg8 arg9 harg9 arg10 harg10 (harg1.unread x0) (harg2.unread x1) (k0_pay18, k0_pay19, k0_pay20, k0_pay21, k0_pay22, k0_pay23 i) (Scf.trips (0#32) (Scalar.addi 0#32 625#32) 1#32) = loopEnd i x0 x1 :=
  st_eq 𝒱 c bd i arg1 harg1 arg2 harg2 arg3 harg3 arg4 harg4 arg5 harg5 arg6 harg6 arg7 harg7 arg8 harg8 arg9 harg9 arg10 harg10 x0 x1 _ (Nat.le_refl _)

/-- A step's sums of exponentials, from the loop's carried value `R` and the sums before. -/
def mergeS (R : Carry F) (s : Vec F S32x128 .f32) : Vec F S32x128 .f32 := k0_pay34 R.1 s
/-- A step's sums of weighted logits. -/
def mergeT (R : Carry F) (t : Vec F S32x128 .f32) : Vec F S32x128 .f32 := k0_pay35 R.2.1 t
/-- A step's best exponentials. -/
def mergeE (R : Carry F) (e w : Vec F S32x128 .f32) : Vec F S32x128 .f32 := k0_pay1 R.2.2.1 (k0_pay36 R.2.2.1 R.2.2.2.1 w e) e
/-- A step's denominators of the best. -/
def mergeW (R : Carry F) (e w : Vec F S32x128 .f32) : Vec F S32x128 .f32 := k0_pay2 R.2.2.2.1 (k0_pay36 R.2.2.1 R.2.2.2.1 w e) w
/-- A step's chunks of the best. -/
def mergeC (R : Carry F) (e w : Vec F S32x128 .f32) (k : Vec F S32x128 .i32) : Vec F S32x128 .i32 := k0_pay3 R.2.2.2.2.1 (k0_pay36 R.2.2.1 R.2.2.2.1 w e) k

/-- The sum after a first step. -/
theorem sA0 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : cond0_0 i) (hc1 : ¬cond0_1 i)
    (x0 : Vec F S20000x128 .f32) (x1 : Vec F S20000x128 .f32)  :
    sout0_A_0 c i arg1 harg1 arg2 harg2 arg3 harg3 arg4 harg4 arg5 harg5 arg6 harg6 arg7 harg7 arg8 harg8 arg9 harg9 arg10 harg10 hc0 hc1 x0 x1 = mergeS (loopEnd i x0 x1) k0_pay13 := by
  frame_out
  simp only [st_end]
  rfl

/-- The weighted sum after a first step. -/
theorem sA1 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : cond0_0 i) (hc1 : ¬cond0_1 i)
    (x0 : Vec F S20000x128 .f32) (x1 : Vec F S20000x128 .f32)  :
    sout0_A_1 c i arg1 harg1 arg2 harg2 arg3 harg3 arg4 harg4 arg5 harg5 arg6 harg6 arg7 harg7 arg8 harg8 arg9 harg9 arg10 harg10 hc0 hc1 x0 x1 = mergeT (loopEnd i x0 x1) k0_pay14 := by
  frame_out
  simp only [st_end]
  rfl

/-- The best exponential after a first step. -/
theorem sA2 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : cond0_0 i) (hc1 : ¬cond0_1 i)
    (x0 : Vec F S20000x128 .f32) (x1 : Vec F S20000x128 .f32)  :
    sout0_A_2 c i arg1 harg1 arg2 harg2 arg3 harg3 arg4 harg4 arg5 harg5 arg6 harg6 arg7 harg7 arg8 harg8 arg9 harg9 arg10 harg10 hc0 hc1 x0 x1 = mergeE (loopEnd i x0 x1) k0_pay15 k0_pay16 := by
  frame_out
  simp only [st_end]
  rfl

/-- The best weight after a first step. -/
theorem sA3 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : cond0_0 i) (hc1 : ¬cond0_1 i)
    (x0 : Vec F S20000x128 .f32) (x1 : Vec F S20000x128 .f32)  :
    sout0_A_3 c i arg1 harg1 arg2 harg2 arg3 harg3 arg4 harg4 arg5 harg5 arg6 harg6 arg7 harg7 arg8 harg8 arg9 harg9 arg10 harg10 hc0 hc1 x0 x1 = mergeW (loopEnd i x0 x1) k0_pay15 k0_pay16 := by
  frame_out
  simp only [st_end]
  rfl

/-- The best chunk after a first step. -/
theorem sA4 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : cond0_0 i) (hc1 : ¬cond0_1 i)
    (x0 : Vec F S20000x128 .f32) (x1 : Vec F S20000x128 .f32)  :
    sout0_A_4 c i arg1 harg1 arg2 harg2 arg3 harg3 arg4 harg4 arg5 harg5 arg6 harg6 arg7 harg7 arg8 harg8 arg9 harg9 arg10 harg10 hc0 hc1 x0 x1 = mergeC (loopEnd i x0 x1) k0_pay15 k0_pay16 k0_pay17 := by
  frame_out
  simp only [st_end]
  rfl

/-- The sum after a middle step. -/
theorem sB0 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : ¬cond0_0 i) (hc1 : ¬cond0_1 i)
    (x0 : Vec F S20000x128 .f32) (x1 : Vec F S20000x128 .f32) (xs0 : Vec F S32x128 .f32) (xs1 : Vec F S32x128 .f32) (xs2 : Vec F S32x128 .f32) (xs3 : Vec F S32x128 .f32) (xs4 : Vec F S32x128 .i32) :
    sout0_B_0 c i arg1 harg1 arg2 harg2 arg3 harg3 arg4 harg4 arg5 harg5 arg6 harg6 arg7 harg7 arg8 harg8 arg9 harg9 arg10 harg10 hc0 hc1 x0 x1 xs0 xs1 xs2 xs3 xs4 = mergeS (loopEnd i x0 x1) xs0 := by
  frame_out
  simp only [st_end]
  rfl

/-- The weighted sum after a middle step. -/
theorem sB1 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : ¬cond0_0 i) (hc1 : ¬cond0_1 i)
    (x0 : Vec F S20000x128 .f32) (x1 : Vec F S20000x128 .f32) (xs0 : Vec F S32x128 .f32) (xs1 : Vec F S32x128 .f32) (xs2 : Vec F S32x128 .f32) (xs3 : Vec F S32x128 .f32) (xs4 : Vec F S32x128 .i32) :
    sout0_B_1 c i arg1 harg1 arg2 harg2 arg3 harg3 arg4 harg4 arg5 harg5 arg6 harg6 arg7 harg7 arg8 harg8 arg9 harg9 arg10 harg10 hc0 hc1 x0 x1 xs0 xs1 xs2 xs3 xs4 = mergeT (loopEnd i x0 x1) xs1 := by
  frame_out
  simp only [st_end]
  rfl

/-- The best exponential after a middle step. -/
theorem sB2 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : ¬cond0_0 i) (hc1 : ¬cond0_1 i)
    (x0 : Vec F S20000x128 .f32) (x1 : Vec F S20000x128 .f32) (xs0 : Vec F S32x128 .f32) (xs1 : Vec F S32x128 .f32) (xs2 : Vec F S32x128 .f32) (xs3 : Vec F S32x128 .f32) (xs4 : Vec F S32x128 .i32) :
    sout0_B_2 c i arg1 harg1 arg2 harg2 arg3 harg3 arg4 harg4 arg5 harg5 arg6 harg6 arg7 harg7 arg8 harg8 arg9 harg9 arg10 harg10 hc0 hc1 x0 x1 xs0 xs1 xs2 xs3 xs4 = mergeE (loopEnd i x0 x1) xs2 xs3 := by
  frame_out
  simp only [st_end]
  rfl

/-- The best weight after a middle step. -/
theorem sB3 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : ¬cond0_0 i) (hc1 : ¬cond0_1 i)
    (x0 : Vec F S20000x128 .f32) (x1 : Vec F S20000x128 .f32) (xs0 : Vec F S32x128 .f32) (xs1 : Vec F S32x128 .f32) (xs2 : Vec F S32x128 .f32) (xs3 : Vec F S32x128 .f32) (xs4 : Vec F S32x128 .i32) :
    sout0_B_3 c i arg1 harg1 arg2 harg2 arg3 harg3 arg4 harg4 arg5 harg5 arg6 harg6 arg7 harg7 arg8 harg8 arg9 harg9 arg10 harg10 hc0 hc1 x0 x1 xs0 xs1 xs2 xs3 xs4 = mergeW (loopEnd i x0 x1) xs2 xs3 := by
  frame_out
  simp only [st_end]
  rfl

/-- The best chunk after a middle step. -/
theorem sB4 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : ¬cond0_0 i) (hc1 : ¬cond0_1 i)
    (x0 : Vec F S20000x128 .f32) (x1 : Vec F S20000x128 .f32) (xs0 : Vec F S32x128 .f32) (xs1 : Vec F S32x128 .f32) (xs2 : Vec F S32x128 .f32) (xs3 : Vec F S32x128 .f32) (xs4 : Vec F S32x128 .i32) :
    sout0_B_4 c i arg1 harg1 arg2 harg2 arg3 harg3 arg4 harg4 arg5 harg5 arg6 harg6 arg7 harg7 arg8 harg8 arg9 harg9 arg10 harg10 hc0 hc1 x0 x1 xs0 xs1 xs2 xs3 xs4 = mergeC (loopEnd i x0 x1) xs2 xs3 xs4 := by
  frame_out
  simp only [st_end]
  rfl

/-- What the last step writes for the chosen index. -/
theorem oC2 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : ¬cond0_0 i) (hc1 : cond0_1 i)
    (x0 : Vec F S20000x128 .f32) (x1 : Vec F S20000x128 .f32) (xs0 : Vec F S32x128 .f32) (xs1 : Vec F S32x128 .f32) (xs2 : Vec F S32x128 .f32) (xs3 : Vec F S32x128 .f32) (xs4 : Vec F S32x128 .i32) :
    out0_C_2 c i arg1 harg1 arg2 harg2 arg3 harg3 arg4 harg4 arg5 harg5 arg6 harg6 arg7 harg7 arg8 harg8 arg9 harg9 arg10 harg10 hc0 hc1 x0 x1 xs0 xs1 xs2 xs3 xs4 = k0_pay12 (mergeE (loopEnd i x0 x1) xs2 xs3) (mergeW (loopEnd i x0 x1) xs2 xs3) (mergeC (loopEnd i x0 x1) xs2 xs3 xs4) := by
  frame_out
  simp only [st_end]
  rfl

/-- What the last step writes for its log-probability. -/
theorem oC3 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : ¬cond0_0 i) (hc1 : cond0_1 i)
    (x0 : Vec F S20000x128 .f32) (x1 : Vec F S20000x128 .f32) (xs0 : Vec F S32x128 .f32) (xs1 : Vec F S32x128 .f32) (xs2 : Vec F S32x128 .f32) (xs3 : Vec F S32x128 .f32) (xs4 : Vec F S32x128 .i32) :
    out0_C_3 c i arg1 harg1 arg2 harg2 arg3 harg3 arg4 harg4 arg5 harg5 arg6 harg6 arg7 harg7 arg8 harg8 arg9 harg9 arg10 harg10 hc0 hc1 x0 x1 xs0 xs1 xs2 xs3 xs4 = k0_pay4 (k0_pay8 (mergeS (loopEnd i x0 x1) xs0)) (k0_pay11 (mergeE (loopEnd i x0 x1) xs2 xs3) (mergeW (loopEnd i x0 x1) xs2 xs3) (mergeE (loopEnd i x0 x1) xs2 xs3)) := by
  frame_out
  simp only [st_end]
  rfl

/-- What the last step writes for the entropy. -/
theorem oC4 (c : Dev nD) (i : grid0.Coords) (arg1 : Memref sig .tc .vmem S20000x128 .f32) (harg1 : arg1.IsWhole) (arg2 : Memref sig .tc .vmem S20000x128 .f32) (harg2 : arg2.IsWhole) (arg3 : Memref sig .tc .vmem S1x128 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S32x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S32x128 .f32) (harg9 : arg9.IsWhole) (arg10 : Memref sig .tc .vmem S32x128 .i32) (harg10 : arg10.IsWhole) (hc0 : ¬cond0_0 i) (hc1 : cond0_1 i)
    (x0 : Vec F S20000x128 .f32) (x1 : Vec F S20000x128 .f32) (xs0 : Vec F S32x128 .f32) (xs1 : Vec F S32x128 .f32) (xs2 : Vec F S32x128 .f32) (xs3 : Vec F S32x128 .f32) (xs4 : Vec F S32x128 .i32) :
    out0_C_4 c i arg1 harg1 arg2 harg2 arg3 harg3 arg4 harg4 arg5 harg5 arg6 harg6 arg7 harg7 arg8 harg8 arg9 harg9 arg10 harg10 hc0 hc1 x0 x1 xs0 xs1 xs2 xs3 xs4 = k0_pay5 (k0_pay6 (mergeS (loopEnd i x0 x1) xs0)) (k0_pay7 (mergeT (loopEnd i x0 x1) xs1)) (k0_pay8 (mergeS (loopEnd i x0 x1) xs0)) := by
  frame_out
  simp only [st_end]
  rfl

end Cert.KernelIdeal.Cases

end
-- ==== Proof.Lane.lean ====
/-
  One lane of the sampler as real arithmetic: the running best ratio `e i / w i` kept as a pair, compared by cross
  products and merged over consecutive ranges (`Best`), sums of reals as extended reals, the re-blocking of a sum by
  rows of thirty-two, and the two identities behind the log-probability and the entropy.
-/
module

public import Idealize.ShloMosaic.PureOps.Ideal.Laws
public import Idealize.ShloMosaic.Lib.Pipeline.ValueKit

@[expose] public section

noncomputable section

namespace Cert.Lane

open Idealize.ShloMosaic

/-- The pair `(E, W)` with its index word `K` is the best of the ratios `e i / w i` over `lo ≤ i < hi`, or the start
    values `0` and `1` when the range is empty. -/
def Best (e w : ℕ → ℝ) (lo hi : ℕ) (E W : EReal) (K : BitVec 32) : Prop :=
  (hi = lo ∧ E = 0 ∧ W = 1) ∨
  ∃ i, lo ≤ i ∧ i < hi ∧ E = (e i : EReal) ∧ W = (w i : EReal) ∧ K = BitVec.ofNat 32 i ∧
    ∀ i', lo ≤ i' → i' < hi → e i' * w i ≤ e i * w i'

/-- The word of minus infinity. -/
theorem word_bot : Ideal.ofBits .f32 0xFF800000#32 = ⊥ := by simp [Ideal.ofBits, Ideal.ieee]
/-- The word of plus infinity. -/
theorem word_top : Ideal.ofBits .f32 0x7F800000#32 = ⊤ := by simp [Ideal.ofBits, Ideal.ieee]
/-- The word of one. -/
theorem word_one : Ideal.ofBits .f32 0x3F800000#32 = 1 := by
  simp [Ideal.ofBits, Ideal.ieee, -EReal.coe_mul]
  norm_num

/-- The word the float compare `>` gives, as a choice. -/
theorem select_ogt {α : Type} (x y : EReal) (a b : α) :
    Scalar.select (Ideal.cmp .ogt x y) a b = if y < x then a else b := by
  unfold Scalar.select Ideal.cmp
  by_cases h : y < x <;> simp [h]

/-- The word the float compare `=` gives, as a choice. -/
theorem select_oeq {α : Type} (x y : EReal) (a b : α) :
    Scalar.select (Ideal.cmp .oeq x y) a b = if x = y then a else b := by
  unfold Scalar.select Ideal.cmp
  by_cases h : x = y <;> simp [h]

/-- Merging the best of a range with the best of the range after it by the cross-product compare gives the best of
    both together. -/
theorem best_merge {e w : ℕ → ℝ} (he : ∀ i, 0 < e i) (hw : ∀ i, 0 < w i) {lo mid hi : ℕ} {E1 W1 E2 W2 : EReal}
    {K1 K2 : BitVec 32} (h1 : Best e w lo mid E1 W1 K1) (h2 : Best e w mid hi E2 W2 K2) :
    Best e w lo hi (if E1 * W2 < E2 * W1 then E2 else E1) (if E1 * W2 < E2 * W1 then W2 else W1)
      (if E1 * W2 < E2 * W1 then K2 else K1) := by
  rcases h1 with ⟨hm, rfl, rfl⟩ | ⟨i, hli, him, rfl, rfl, rfl, hi1⟩
  · subst hm
    rcases h2 with ⟨hh, rfl, rfl⟩ | ⟨j, hlj, hjh, rfl, rfl, rfl, hj⟩
    · subst hh
      refine Or.inl ⟨rfl, ?_, ?_⟩ <;> simp
    · have hc : (0 : EReal) * (w j : EReal) < (e j : EReal) * 1 := by
        rw [zero_mul, mul_one]; exact_mod_cast he j
      rw [if_pos hc, if_pos hc, if_pos hc]
      exact Or.inr ⟨j, hlj, hjh, rfl, rfl, rfl, hj⟩
  · rcases h2 with ⟨hh, rfl, rfl⟩ | ⟨j, hlj, hjh, rfl, rfl, rfl, hj⟩
    · subst hh
      have hc : ¬ ((e i : EReal) * 1 < 0 * (w i : EReal)) := by
        rw [zero_mul, mul_one, not_lt]; exact_mod_cast (he i).le
      rw [if_neg hc, if_neg hc, if_neg hc]
      exact Or.inr ⟨i, hli, him, rfl, rfl, rfl, hi1⟩
    · by_cases hc : e i * w j < e j * w i
      · have hc' : (e i : EReal) * (w j : EReal) < (e j : EReal) * (w i : EReal) := by exact_mod_cast hc
        rw [if_pos hc', if_pos hc', if_pos hc']
        refine Or.inr ⟨j, by omega, hjh, rfl, rfl, rfl, fun i' a b => ?_⟩
        by_cases hi' : i' < mid
        · have h3 := hi1 i' a hi'
          have h4 : e i' * w j * w i ≤ e j * w i' * w i := by
            calc e i' * w j * w i = (e i' * w i) * w j := by ring
              _ ≤ (e i * w i') * w j := mul_le_mul_of_nonneg_right h3 (hw j).le
              _ = (e i * w j) * w i' := by ring
              _ ≤ (e j * w i) * w i' := mul_le_mul_of_nonneg_right hc.le (hw i').le
              _ = e j * w i' * w i := by ring
          exact le_of_mul_le_mul_right h4 (hw i)
        · exact hj i' (by omega) b
      · have hc' : ¬ ((e i : EReal) * (w j : EReal) < (e j : EReal) * (w i : EReal)) := by exact_mod_cast hc
        rw [if_neg hc', if_neg hc', if_neg hc']
        refine Or.inr ⟨i, hli, by omega, rfl, rfl, rfl, fun i' a b => ?_⟩
        by_cases hi' : i' < mid
        · exact hi1 i' a hi'
        · have h3 := hj i' (by omega) b
          have h4 : e i' * w i * w j ≤ e i * w i' * w j := by
            calc e i' * w i * w j = (e i' * w j) * w i := by ring
              _ ≤ (e j * w i') * w i := mul_le_mul_of_nonneg_right h3 (hw i).le
              _ = (e j * w i) * w i' := by ring
              _ ≤ (e i * w j) * w i' := mul_le_mul_of_nonneg_right (not_lt.mp hc) (hw i').le
              _ = e i * w i' * w j := by ring
          exact le_of_mul_le_mul_right h4 (hw j)

/-- A range of one element: that element is its best. -/
theorem best_single (e w : ℕ → ℝ) (i : ℕ) : Best e w i (i + 1) (e i) (w i) (BitVec.ofNat 32 i) :=
  Or.inr ⟨i, le_refl _, Nat.lt_succ_self _, rfl, rfl, rfl, fun i' a b => by
    obtain rfl : i' = i := by omega
    exact le_refl _⟩

/-- An empty range: the start values. -/
theorem best_empty (e w : ℕ → ℝ) (i : ℕ) (K : BitVec 32) : Best e w i i 0 1 K := Or.inl ⟨rfl, rfl, rfl⟩

/-- The best of a range that is not empty is one of its elements. -/
theorem best_mem {e w : ℕ → ℝ} {hi : ℕ} {E W : EReal} {K : BitVec 32} (h : Best e w 0 hi E W K) (h0 : 0 < hi) :
    ∃ i, i < hi ∧ E = (e i : EReal) ∧ W = (w i : EReal) ∧ K = BitVec.ofNat 32 i ∧ ∀ i' < hi, e i' * w i ≤ e i * w i' := by
  rcases h with ⟨h, -, -⟩ | ⟨i, -, a, b, c, d, f⟩
  · omega
  · exact ⟨i, a, b, c, d, fun i' h => f i' (Nat.zero_le _) h⟩

/-- A finite sum of reals, read as extended reals, is the sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `32 n` consecutive numbers, by rows of thirty-two. -/
theorem sum_rows (f : ℕ → ℝ) (n : ℕ) :
    ∑ v ∈ Finset.range (32 * n), f v = ∑ r ∈ Finset.range 32, ∑ i ∈ Finset.range n, f (32 * i + r) := by
  rw [Finset.sum_comm]
  induction n with
  | zero => simp
  | succ n ih => rw [Nat.mul_succ, Finset.sum_range_add, ih,
      Finset.sum_range_succ (fun i => ∑ r ∈ Finset.range 32, f (32 * i + r))]

/-- Over a row of real logits: the log-probability and the entropy by their definitions, in terms of the sums of
    exponentials and of weighted logits. -/
theorem entropy_eq {n : ℕ} (l : ℕ → ℝ) (hn : 0 < n) :
    ∑ v ∈ Finset.range n, -(l v - Real.log (∑ k ∈ Finset.range n, Real.exp (l k))) *
        Real.exp (l v - Real.log (∑ k ∈ Finset.range n, Real.exp (l k)))
      = Real.log (∑ k ∈ Finset.range n, Real.exp (l k)) -
        (∑ k ∈ Finset.range n, l k * Real.exp (l k)) / (∑ k ∈ Finset.range n, Real.exp (l k)) := by
  set S := ∑ k ∈ Finset.range n, Real.exp (l k) with hS
  have hpos : 0 < S := Finset.sum_pos (fun i _ => Real.exp_pos _) ⟨0, Finset.mem_range.mpr hn⟩
  have h1 : ∀ v, -(l v - Real.log S) * Real.exp (l v - Real.log S)
      = Real.log S / S * Real.exp (l v) - 1 / S * (l v * Real.exp (l v)) := fun v => by
    rw [Real.exp_sub, Real.exp_log hpos]; field_simp; ring
  rw [Finset.sum_congr rfl fun v _ => h1 v, Finset.sum_sub_distrib, ← Finset.mul_sum, ← Finset.mul_sum, ← hS]
  field_simp

end Cert.Lane

end
-- ==== Proof.KernelLanes.lean ====
/-
  The kernel's payloads read at one lane over the extended reals, and what a lane holds: after any number of steps its
  sums are the real sums over the chunks seen and its best pair is the best of them (`LaneInv`), kept by one trip of
  the loop, by the whole loop (`loop_inv`) and by merging a step into the scratch rows (`merge_inv`).
-/
module

public import proofs.«01_k».proof.Proof.KernelCases
public import proofs.«01_k».proof.Proof.Lane

@[expose] public section

noncomputable section

namespace Cert.KernelIdeal.Lanes

open Cert.KernelIdeal Cert.KernelIdeal.Gen Cert.KernelIdeal.Cases Cert.Lane Idealize.ShloMosaic

/-! ## The payloads at a lane -/

section Payloads
variable (s t E W v w : FVec Ideal S32x128 .f32) (K c : IVec S32x128 32) (r : Fin 32) (b : Fin 128)

/-- The sum of exponentials after a trip. -/
theorem p27 : k0_pay27 s v (ix2 r b) = s (ix2 r b) + Ideal.exp (v (ix2 r b)) := by
  pointwise [k0_pay27, k0_pay25, k0_pay24]
/-- The sum of weighted logits after a trip. -/
theorem p28 : k0_pay28 s v (ix2 r b) = s (ix2 r b) + v (ix2 r b) * Ideal.exp (v (ix2 r b)) := by
  pointwise [k0_pay28, k0_pay25, k0_pay24]
/-- The best numerator after a trip. -/
theorem p31 : k0_pay31 E W v w (ix2 r b)
    = if E (ix2 r b) * (0 - Ideal.log (w (ix2 r b))) < Ideal.exp (v (ix2 r b)) * W (ix2 r b)
      then Ideal.exp (v (ix2 r b)) else E (ix2 r b) := by
  pointwise [k0_pay31, k0_pay30, k0_pay26, k0_pay25, k0_pay24]
/-- The best denominator after a trip. -/
theorem p32 : k0_pay32 E W v w (ix2 r b)
    = if E (ix2 r b) * (0 - Ideal.log (w (ix2 r b))) < Ideal.exp (v (ix2 r b)) * W (ix2 r b)
      then 0 - Ideal.log (w (ix2 r b)) else W (ix2 r b) := by
  pointwise [k0_pay32, k0_pay30, k0_pay26, k0_pay25, k0_pay24]
/-- The best chunk number after a trip. -/
theorem p33 : k0_pay33 E W K c v w (ix2 r b)
    = if E (ix2 r b) * (0 - Ideal.log (w (ix2 r b))) < Ideal.exp (v (ix2 r b)) * W (ix2 r b)
      then IntOp.addi (c (ix2 r b)) 1#32 else K (ix2 r b) := by
  pointwise [k0_pay33, k0_pay29, k0_pay30, k0_pay26, k0_pay25, k0_pay24]
/-- The running chunk number after a trip. -/
theorem p29 : k0_pay29 c (ix2 r b) = IntOp.addi (c (ix2 r b)) 1#32 := by
  pointwise [k0_pay29]
/-- The running chunk number before the loop. -/
theorem p23 (i : grid0.Coords) : k0_pay23 i (ix2 r b)
    = IntOp.addi 0#32 (Scalar.subi (Scalar.muli (BitVec.ofNat 32 (i 0).val) 625#32) 1#32) := by
  pointwise [k0_pay23]
/-- The sum of exponentials after a step. -/
theorem p34 : k0_pay34 s v (ix2 r b) = v (ix2 r b) + s (ix2 r b) := by
  pointwise [k0_pay34]
/-- The sum of weighted logits after a step. -/
theorem p35 : k0_pay35 s v (ix2 r b) = v (ix2 r b) + s (ix2 r b) := by
  pointwise [k0_pay35]
/-- The best numerator after a step. -/
theorem p1 : k0_pay1 s (k0_pay36 E W v w) t (ix2 r b)
    = if w (ix2 r b) * W (ix2 r b) < E (ix2 r b) * v (ix2 r b) then s (ix2 r b) else t (ix2 r b) := by
  pointwise [k0_pay1, k0_pay36]
/-- The best denominator after a step. -/
theorem p2 : k0_pay2 s (k0_pay36 E W v w) t (ix2 r b)
    = if w (ix2 r b) * W (ix2 r b) < E (ix2 r b) * v (ix2 r b) then s (ix2 r b) else t (ix2 r b) := by
  pointwise [k0_pay2, k0_pay36]
/-- The best chunk number after a step. -/
theorem p3 : k0_pay3 (F := Ideal) c (k0_pay36 E W v w) K (ix2 r b)
    = if w (ix2 r b) * W (ix2 r b) < E (ix2 r b) * v (ix2 r b) then c (ix2 r b) else K (ix2 r b) := by
  pointwise [k0_pay3, k0_pay36]
/-- The rows a trip reads. -/
theorem prows (x : Vec Ideal S20000x128 .f32) (k : Fin k0_t1_loop.trips) (h : 32 * k.val + r.val < 20000) :
    rows x k (ix2 r b) = x (ix2 ⟨32 * k.val + r.val, h⟩ b) := by
  pointwise [rows, k0_off1_eq]
/-- The scratch sums of exponentials start at zero. -/
theorem p13 : k0_pay13 (F := Ideal) (ix2 r b) = 0 := by pointwise [k0_pay13]
/-- The scratch sums of weighted logits start at zero. -/
theorem p14 : k0_pay14 (F := Ideal) (ix2 r b) = 0 := by pointwise [k0_pay14]
/-- The scratch's best exponentials start at zero. -/
theorem p15 : k0_pay15 (F := Ideal) (ix2 r b) = 0 := by pointwise [k0_pay15]
/-- The scratch's denominators start at one. -/
theorem p16 : k0_pay16 (F := Ideal) (ix2 r b) = 1 := by pointwise [k0_pay16]
/-- The loop's sums of exponentials start at zero. -/
theorem p18 : k0_pay18 (F := Ideal) (ix2 r b) = 0 := by pointwise [k0_pay18]
/-- The loop's sums of weighted logits start at zero. -/
theorem p19 : k0_pay19 (F := Ideal) (ix2 r b) = 0 := by pointwise [k0_pay19]
/-- The loop's best exponentials start at zero. -/
theorem p20 : k0_pay20 (F := Ideal) (ix2 r b) = 0 := by pointwise [k0_pay20]
/-- The loop's denominators start at one. -/
theorem p21 : k0_pay21 (F := Ideal) (ix2 r b) = 1 := by pointwise [k0_pay21]
end Payloads

/-! ## What a lane holds -/

/-- The exponential of the logit of column `32 i + r`. -/
def ev (l : ℕ → ℝ) (r i : ℕ) : ℝ := Real.exp (l (32 * i + r))
/-- Minus the logarithm of the uniform number of column `32 i + r`. -/
def wv (u : ℕ → ℝ) (r i : ℕ) : ℝ := -Real.log (u (32 * i + r))

theorem ev_pos (l : ℕ → ℝ) (r i : ℕ) : 0 < ev l r i := Real.exp_pos _
theorem wv_pos {u : ℕ → ℝ} (hu : ∀ v, 0 < u v ∧ u v < 1) (r i : ℕ) : 0 < wv u r i :=
  neg_pos.mpr (Real.log_neg (hu _).1 (hu _).2)

/-- Row `r` over the chunks `lo ≤ i < hi`: the sum of exponentials, the sum of weighted logits and the best pair. -/
def LaneInv (l u : ℕ → ℝ) (r lo hi : ℕ) (S T E W : EReal) (K : BitVec 32) : Prop :=
  S = ((∑ i ∈ Finset.Ico lo hi, ev l r i : ℝ) : EReal) ∧
  T = ((∑ i ∈ Finset.Ico lo hi, l (32 * i + r) * ev l r i : ℝ) : EReal) ∧
  Best (ev l r) (wv u r) lo hi E W K

/-- An empty range holds the start values. -/
theorem LaneInv.empty (l u : ℕ → ℝ) (r lo : ℕ) (K : BitVec 32) : LaneInv l u r lo lo 0 0 0 1 K :=
  ⟨by simp, by simp, best_empty _ _ _ _⟩

/-- One chunk. -/
theorem LaneInv.single (l u : ℕ → ℝ) (r i : ℕ) :
    LaneInv l u r i (i + 1) (ev l r i) (l (32 * i + r) * ev l r i : ℝ) (ev l r i) (wv u r i) (BitVec.ofNat 32 i) :=
  ⟨by simp, by simp, best_single _ _ _⟩

/-- Two consecutive ranges merge. -/
theorem LaneInv.merge {l u : ℕ → ℝ} (hu : ∀ v, 0 < u v ∧ u v < 1) {r lo mid hi : ℕ} (hlm : lo ≤ mid) (hmh : mid ≤ hi)
    {S1 T1 E1 W1 S2 T2 E2 W2 : EReal} {K1 K2 : BitVec 32} (h1 : LaneInv l u r lo mid S1 T1 E1 W1 K1)
    (h2 : LaneInv l u r mid hi S2 T2 E2 W2 K2) :
    LaneInv l u r lo hi (S1 + S2) (T1 + T2) (if E1 * W2 < E2 * W1 then E2 else E1)
      (if E1 * W2 < E2 * W1 then W2 else W1) (if E1 * W2 < E2 * W1 then K2 else K1) :=
  ⟨by rw [h1.1, h2.1, ← EReal.coe_add, Finset.sum_Ico_consecutive _ hlm hmh],
   by rw [h1.2.1, h2.2.1, ← EReal.coe_add, Finset.sum_Ico_consecutive _ hlm hmh],
   best_merge (ev_pos l r) (wv_pos hu r) h1.2.2 h2.2.2⟩

/-- A block of the transposed logits or uniform numbers: step `g`'s rows are columns `20000 g` onwards. -/
def Holds (X : Vec Ideal S20000x128 .f32) (f : ℕ → ℕ → ℝ) (g : ℕ) : Prop :=
  ∀ (q : Fin 20000) (b : Fin 128), X (ix2 q b) = (f b.val (20000 * g + q.val) : EReal)

/-- The six values of a step's loop after `n` trips, at every lane. -/
def LoopInv (l u : ℕ → ℕ → ℝ) (g n : ℕ) (R : Carry Ideal) : Prop :=
  ∀ (r : Fin 32) (b : Fin 128),
    LaneInv (l b.val) (u b.val) r.val (625 * g) (625 * g + n) (R.1 (ix2 r b)) (R.2.1 (ix2 r b)) (R.2.2.1 (ix2 r b))
      (R.2.2.2.1 (ix2 r b)) (R.2.2.2.2.1 (ix2 r b)) ∧
    IntOp.addi (R.2.2.2.2.2 (ix2 r b)) 1#32 = BitVec.ofNat 32 (625 * g + n)

theorem trips_eq : k0_t1_loop.trips = 625 := by decide +kernel

/-- Before the loop. -/
theorem loop_start (l u : ℕ → ℕ → ℝ) (i : grid0.Coords) (x0 x1 : Vec Ideal S20000x128 .f32) :
    LoopInv l u (i 0).val 0 (loopF i x0 x1 0) := by
  intro r b
  unfold loopF
  refine ⟨?_, ?_⟩
  · show LaneInv _ _ _ _ _ (k0_pay18 (F := Ideal) (ix2 r b)) (k0_pay19 (F := Ideal) (ix2 r b))
      (k0_pay20 (F := Ideal) (ix2 r b)) (k0_pay21 (F := Ideal) (ix2 r b)) _
    rw [p18, p19, p20, p21]
    exact LaneInv.empty _ _ _ _ _
  · show IntOp.addi (k0_pay23 i (ix2 r b)) 1#32 = _
    rw [p23]
    show (0#32 + (BitVec.ofNat 32 (i 0).val * 625#32 - 1#32)) + 1#32 = _
    rw [BitVec.zero_add, BitVec.sub_add_cancel, Nat.add_zero, Nat.mul_comm, BitVec.ofNat_mul]

/-- One trip. -/
theorem loop_trip {l u : ℕ → ℕ → ℝ} (hu : ∀ b v, 0 < u b v ∧ u b v < 1) {g n : ℕ} {R : Carry Ideal}
    {v w : Vec Ideal S32x128 .f32}
    (hv : ∀ (r : Fin 32) (b : Fin 128), v (ix2 r b) = (l b.val (32 * (625 * g + n) + r.val) : EReal))
    (hw : ∀ (r : Fin 32) (b : Fin 128), w (ix2 r b) = (u b.val (32 * (625 * g + n) + r.val) : EReal))
    (h : LoopInv l u g n R) : LoopInv l u g (n + 1) (yieldF v w R) := by
  intro r b
  obtain ⟨h1, h2⟩ := h r b
  have he : Ideal.exp (v (ix2 r b)) = (ev (l b.val) r.val (625 * g + n) : EReal) := by rw [hv, Ideal.exp_coe]; rfl
  have hlw : 0 - Ideal.log (w (ix2 r b)) = (wv (u b.val) r.val (625 * g + n) : EReal) := by
    rw [hw, Ideal.log_coe, if_neg (not_le.mpr (hu _ _).1), zero_sub, ← EReal.coe_neg]; rfl
  refine ⟨?_, ?_⟩
  · show LaneInv _ _ _ _ _ (k0_pay27 R.1 v (ix2 r b)) (k0_pay28 R.2.1 v (ix2 r b))
      (k0_pay31 R.2.2.1 R.2.2.2.1 v w (ix2 r b)) (k0_pay32 R.2.2.1 R.2.2.2.1 v w (ix2 r b))
      (k0_pay33 R.2.2.1 R.2.2.2.1 R.2.2.2.2.1 R.2.2.2.2.2 v w (ix2 r b))
    rw [p27, p28, p31, p32, p33, he, hlw, h2, hv r b, ← EReal.coe_mul]
    exact LaneInv.merge (hu b.val) (Nat.le_add_right _ _) (Nat.le_succ _) h1 (LaneInv.single _ _ _ _)
  · show IntOp.addi (k0_pay29 R.2.2.2.2.2 (ix2 r b)) 1#32 = _
    rw [p29, h2]
    show BitVec.ofNat 32 (625 * g + n) + 1#32 = _
    rw [← BitVec.ofNat_add, Nat.add_assoc]

/-- The loop of a step over the step's blocks. -/
theorem loop_inv {l u : ℕ → ℕ → ℝ} (hu : ∀ b v, 0 < u b v ∧ u b v < 1) (i : grid0.Coords)
    {x0 x1 : Vec Ideal S20000x128 .f32} (h0 : Holds x0 l (i 0).val) (h1 : Holds x1 u (i 0).val) :
    ∀ n, n ≤ 625 → LoopInv l u (i 0).val n (loopF i x0 x1 n)
  | 0, _ => loop_start l u i x0 x1
  | n + 1, hn => by
      have hlt : n < k0_t1_loop.trips := by rw [trips_eq]; omega
      rw [loopF, dif_pos hlt]
      refine loop_trip hu (fun r b => ?_) (fun r b => ?_) (loop_inv hu i h0 h1 n (by omega))
      · have hr := r.isLt
        rw [prows r b x0 ⟨n, hlt⟩ (by show 32 * n + r.val < 20000; omega), h0]
        congr 2
        show 20000 * (i 0).val + (32 * n + r.val) = _
        omega
      · have hr := r.isLt
        rw [prows r b x1 ⟨n, hlt⟩ (by show 32 * n + r.val < 20000; omega), h1]
        congr 2
        show 20000 * (i 0).val + (32 * n + r.val) = _
        omega

/-- The loop's end. -/
theorem loopEnd_inv {l u : ℕ → ℕ → ℝ} (hu : ∀ b v, 0 < u b v ∧ u b v < 1) (i : grid0.Coords)
    {x0 x1 : Vec Ideal S20000x128 .f32} (h0 : Holds x0 l (i 0).val) (h1 : Holds x1 u (i 0).val) :
    LoopInv l u (i 0).val 625 (loopEnd i x0 x1) := by
  have h : loopEnd i x0 x1 = loopF i x0 x1 625 := congrArg (loopF i x0 x1) trips_eq
  rw [h]
  exact loop_inv hu i h0 h1 625 le_rfl

/-! ## The scratch rows from step to step -/

/-- The five scratch rows after `n` steps, at every lane. -/
def RowsInv (l u : ℕ → ℕ → ℝ) (n : ℕ) (s t e w : Vec Ideal S32x128 .f32) (k : Vec Ideal S32x128 .i32) : Prop :=
  ∀ (r : Fin 32) (b : Fin 128),
    LaneInv (l b.val) (u b.val) r.val 0 (625 * n) (s (ix2 r b)) (t (ix2 r b)) (e (ix2 r b)) (w (ix2 r b)) (k (ix2 r b))

/-- The start values of the rows. -/
theorem rows_start (l u : ℕ → ℕ → ℝ) :
    RowsInv l u 0 (k0_pay13 (F := Ideal)) (k0_pay14 (F := Ideal)) (k0_pay15 (F := Ideal)) (k0_pay16 (F := Ideal))
      k0_pay17 := by
  intro r b
  rw [p13, p14, p15, p16]
  exact LaneInv.empty _ _ _ _ _

/-- Merging a step's loop into the rows. -/
theorem merge_inv {l u : ℕ → ℕ → ℝ} (hu : ∀ b v, 0 < u b v ∧ u b v < 1) {n : ℕ} {s t e w : Vec Ideal S32x128 .f32}
    {k : Vec Ideal S32x128 .i32} {R : Carry Ideal} (h : RowsInv l u n s t e w k) (hR : LoopInv l u n 625 R) :
    RowsInv l u (n + 1) (mergeS R s) (mergeT R t) (mergeE R e w) (mergeW R e w) (mergeC R e w k) := by
  intro r b
  unfold mergeS mergeT mergeE mergeW mergeC
  rw [p34, p35, p1, p2, p3]
  exact LaneInv.merge (hu b.val) (Nat.zero_le _) (by omega) (h r b) (hR r b).1

end Cert.KernelIdeal.Lanes

end
-- ==== Proof.KernelEnd.lean ====
/-
  The last step's results from the scratch rows: with one column strictly above all others in the ratio of its
  exponential to its denominator, the row holding it is the only row attaining the maximum, so the first result is its
  column, the second its log-probability and the third the entropy of the row.
-/
module

public import proofs.«01_k».proof.Proof.KernelLanes

@[expose] public section

noncomputable section

namespace Cert.KernelIdeal.Lanes

open Cert.KernelIdeal Cert.KernelIdeal.Gen Cert.KernelIdeal.Cases Cert.Lane Idealize.ShloMosaic

/-! ## The last payloads at a lane -/

section Payloads
variable (s E W v : FVec Ideal S32x128 .f32) (K : IVec S32x128 32) (b : Fin 128)

/-- The sum of the rows' sums of exponentials. -/
theorem p6 : k0_pay6 (F := Ideal) s (ix2 0 b) = ∑ r : Fin 32, s (ix2 r b) := by
  pointwise [k0_pay6]
/-- The sum of the rows' sums of weighted logits. -/
theorem p7 : k0_pay7 (F := Ideal) s (ix2 0 b) = ∑ r : Fin 32, s (ix2 r b) := by
  pointwise [k0_pay7]
/-- The logarithm of the sum of exponentials. -/
theorem p8 : k0_pay8 (F := Ideal) s (ix2 0 b) = Ideal.log (k0_pay6 (F := Ideal) s (ix2 0 b)) := by
  pointwise [k0_pay8]
/-- The first row attaining the largest ratio. -/
theorem p9 : k0_pay9 (F := Ideal) E W (ix2 0 b)
    = Finset.univ.fold IntOp.minsi 2147483647#32 fun x : Fin 32 =>
        if Ideal.div (E (ix2 x b)) (W (ix2 x b))
          = Finset.univ.fold max (Ideal.ofBits .f32 4286578688#32) fun x : Fin 32 => Ideal.div (E (ix2 x b)) (W (ix2 x b))
        then BitVec.ofNat 32 x.val else 32#32 := by
  pointwise [k0_pay9]
/-- The column: the chunk of that row, times thirty-two, plus the row. -/
theorem p12 : k0_pay12 (F := Ideal) E W K (ix2 0 b)
    = IntOp.addi (IntOp.muli (Finset.univ.fold IntOp.addi 0#32 fun x : Fin 32 =>
        Scalar.select (IntOp.cmpi .eq (BitVec.ofNat 32 x.val) (k0_pay9 (F := Ideal) E W (ix2 0 b))) (K (ix2 x b)) 0#32) 32#32)
        (k0_pay9 (F := Ideal) E W (ix2 0 b)) := by
  pointwise [k0_pay12, k0_pay10]
/-- The value of that row. -/
theorem p11 : k0_pay11 (F := Ideal) E W v (ix2 0 b)
    = ∑ x : Fin 32, Scalar.select (IntOp.cmpi .eq (BitVec.ofNat 32 x.val) (k0_pay9 (F := Ideal) E W (ix2 0 b))) (v (ix2 x b)) 0 := by
  pointwise [k0_pay11, k0_pay10]
/-- The log-probability from its two logarithms. -/
theorem p4 (x y : FVec Ideal S1x128 .f32) : k0_pay4 x y (ix2 0 b) = Ideal.log (y (ix2 0 b)) - x (ix2 0 b) := by
  pointwise [k0_pay4]
/-- The entropy from the two sums. -/
theorem p5 (x y z : FVec Ideal S1x128 .f32) :
    k0_pay5 x y z (ix2 0 b) = z (ix2 0 b) - Ideal.div (y (ix2 0 b)) (x (ix2 0 b)) := by
  pointwise [k0_pay5]
end Payloads

/-! ## Folds over the thirty-two rows -/

/-- The smallest of the words where only row `q` has its own number. -/
theorem fold_first : ∀ q : Fin 32,
    (Finset.univ.fold IntOp.minsi 2147483647#32 fun x : Fin 32 => if x = q then BitVec.ofNat 32 x.val else 32#32)
      = BitVec.ofNat 32 q.val := by decide +kernel

/-- Two row numbers are the same word exactly when they are the same. -/
theorem row_word : ∀ x q : Fin 32,
    IntOp.cmpi .eq (BitVec.ofNat 32 x.val) (BitVec.ofNat 32 q.val) = if x = q then 1#1 else 0#1 := by decide +kernel

/-- Choosing by the row number's word. -/
theorem select_row {α : Type} (x q : Fin 32) (a z : α) :
    Scalar.select (IntOp.cmpi .eq (BitVec.ofNat 32 x.val) (BitVec.ofNat 32 q.val)) a z = if x = q then a else z := by
  rw [row_word]
  by_cases h : x = q <;> simp [h, Scalar.select]

/-- The wrapping sum of words that are all zero. -/
theorem fold_zero (s : Finset (Fin 32)) (f : Fin 32 → BitVec 32) (h : ∀ x ∈ s, f x = 0#32) :
    s.fold IntOp.addi 0#32 f = 0#32 := by
  induction s using Finset.induction_on with
  | empty => rfl
  | insert a s ha ih =>
    rw [Finset.fold_insert ha, h a (Finset.mem_insert_self _ _), ih fun x hx => h x (Finset.mem_insert_of_mem hx)]
    rfl

/-- The wrapping sum of words that are zero but for row `q`. -/
theorem fold_row (q : Fin 32) (f : Fin 32 → BitVec 32) :
    (Finset.univ.fold IntOp.addi 0#32 fun x => if x = q then f x else 0#32) = f q := by
  have h : (Finset.univ : Finset (Fin 32)) = insert q (Finset.univ.erase q) := by simp
  rw [h, Finset.fold_insert (by simp), if_pos rfl,
    fold_zero _ _ fun x hx => if_neg (Finset.ne_of_mem_erase hx)]
  show f q + 0#32 = f q
  exact BitVec.add_zero _

/-- The largest of finitely many extended reals, when one is known to be. -/
theorem fold_max_at {ι : Type} [Fintype ι] (f : ι → EReal) (q : ι) (h : ∀ x, f x ≤ f q) : Finset.univ.fold max ⊥ f = f q :=
  le_antisymm ((Finset.fold_max_le _).mpr ⟨bot_le, fun x _ => h x⟩) ((Finset.le_fold_max _).mpr (Or.inr ⟨q, Finset.mem_univ _, le_rfl⟩))

/-! ## The three results -/

/-- Column `v` is strictly above every other column in the ratio of the exponential of the logit to minus the logarithm
    of the uniform number, by cross products. -/
def Top (l u : ℕ → ℝ) (v : ℕ) : Prop :=
  v < 100000 ∧ ∀ v' < 100000, v' ≠ v → Real.exp (l v') * -Real.log (u v) < Real.exp (l v) * -Real.log (u v')

/-- The sum of the exponentials of a row of logits. -/
def expSum (l : ℕ → ℝ) : ℝ := ∑ v ∈ Finset.range 100000, Real.exp (l v)
/-- The sum of the logits weighted by their exponentials. -/
def mulSum (l : ℕ → ℝ) : ℝ := ∑ v ∈ Finset.range 100000, l v * Real.exp (l v)

theorem expSum_pos (l : ℕ → ℝ) : 0 < expSum l :=
  Finset.sum_pos (fun _ _ => Real.exp_pos _) ⟨0, by simp⟩

section Last
variable {l u : ℕ → ℕ → ℝ} {s t e w : Vec Ideal S32x128 .f32} {k : Vec Ideal S32x128 .i32}

/-- The rows' sums of exponentials add up to the row's. -/
theorem last_sum (h : RowsInv l u 5 s t e w k) (b : Fin 128) : k0_pay6 (F := Ideal) s (ix2 0 b) = (expSum (l b.val) : EReal) := by
  rw [p6, Finset.sum_congr rfl fun r _ => (h r b).1, ← coe_sum, expSum, show 100000 = 32 * 3125 from rfl, sum_rows,
    Finset.sum_range]
  simp only [Nat.Ico_zero_eq_range]
  rfl

/-- The rows' sums of weighted logits add up to the row's. -/
theorem last_mul (h : RowsInv l u 5 s t e w k) (b : Fin 128) : k0_pay7 (F := Ideal) t (ix2 0 b) = (mulSum (l b.val) : EReal) := by
  rw [p7, Finset.sum_congr rfl fun r _ => (h r b).2.1, ← coe_sum, mulSum, show 100000 = 32 * 3125 from rfl, sum_rows,
    Finset.sum_range]
  simp only [Nat.Ico_zero_eq_range]
  rfl

/-- The logarithm of the row's sum of exponentials. -/
theorem last_log (h : RowsInv l u 5 s t e w k) (b : Fin 128) :
    k0_pay8 (F := Ideal) s (ix2 0 b) = (Real.log (expSum (l b.val)) : EReal) := by
  rw [p8, last_sum h, Ideal.log_coe, if_neg (not_le.mpr (expSum_pos _))]

/-- The third result: the entropy. -/
theorem last_entropy (h : RowsInv l u 5 s t e w k) (b : Fin 128) :
    k0_pay5 (k0_pay6 (F := Ideal) s) (k0_pay7 (F := Ideal) t) (k0_pay8 (F := Ideal) s) (ix2 0 b)
      = ((Real.log (expSum (l b.val)) - mulSum (l b.val) / expSum (l b.val) : ℝ) : EReal) := by
  rw [p5, last_log h, last_mul h, last_sum h, Ideal.div_coe (expSum_pos _).ne', ← EReal.coe_mul, ← EReal.coe_sub,
    mul_one_div]

/-- The rows at the end, against the top column: the row of that column holds it, and every other row's ratio is below. -/
theorem last_rows (hu : ∀ b v, 0 < u b v ∧ u b v < 1) (h : RowsInv l u 5 s t e w k) (b : Fin 128) {v : ℕ}
    (hv : Top (l b.val) (u b.val) v) :
    (e (ix2 (⟨v % 32, Nat.mod_lt _ (by decide)⟩ : Fin 32) b) = (Real.exp (l b.val v) : EReal) ∧
      k (ix2 (⟨v % 32, Nat.mod_lt _ (by decide)⟩ : Fin 32) b) = BitVec.ofNat 32 (v / 32)) ∧
    ∃ q : Fin 32 → ℝ, (∀ r, Ideal.div (e (ix2 r b)) (w (ix2 r b)) = (q r : EReal)) ∧
      ∀ r, r ≠ ⟨v % 32, Nat.mod_lt _ (by decide)⟩ → q r < q ⟨v % 32, Nat.mod_lt _ (by decide)⟩ := by
  have hm : ∀ r : Fin 32, ∃ i, i < 625 * 5 ∧ e (ix2 r b) = (ev (l b.val) r.val i : EReal) ∧
      w (ix2 r b) = (wv (u b.val) r.val i : EReal) ∧ k (ix2 r b) = BitVec.ofNat 32 i ∧
      ∀ i' < 625 * 5, ev (l b.val) r.val i' * wv (u b.val) r.val i ≤ ev (l b.val) r.val i * wv (u b.val) r.val i' :=
    fun r => best_mem (h r b).2.2 (by decide)
  choose i hi he hw hk hbest using hm
  have hlt := hv.1
  have hvq : 32 * (v / 32) + v % 32 = v := Nat.div_add_mod v 32
  have hev : ev (l b.val) (v % 32) (v / 32) = Real.exp (l b.val v) := by unfold ev; rw [hvq]
  have hwv : wv (u b.val) (v % 32) (v / 32) = -Real.log (u b.val v) := by unfold wv; rw [hvq]
  have hstar : i ⟨v % 32, Nat.mod_lt _ (by decide)⟩ = v / 32 := by
    by_contra hne
    have h1 := hbest ⟨v % 32, Nat.mod_lt _ (by decide)⟩ (v / 32) (by omega)
    have h2 := hv.2 (32 * i ⟨v % 32, Nat.mod_lt _ (by decide)⟩ + v % 32)
      (by have := hi ⟨v % 32, Nat.mod_lt _ (by decide)⟩; omega) (by omega)
    simp only [hev, hwv] at h1
    exact absurd h1 (not_le.mpr h2)
  have hw0 : ∀ r, wv (u b.val) r.val (i r) ≠ 0 := fun r => (wv_pos (hu b.val) _ _).ne'
  refine ⟨⟨?_, ?_⟩, fun r => ev (l b.val) r.val (i r) / wv (u b.val) r.val (i r), fun r => ?_, fun r hr => ?_⟩
  · rw [he, hstar]; exact congrArg _ hev
  · rw [hk, hstar]
  · rw [he, hw, Ideal.div_coe (hw0 r), ← EReal.coe_mul, mul_one_div]
  · have hne : 32 * i r + r.val ≠ v := fun h0 => hr (Fin.ext (by show r.val = v % 32; have := r.isLt; omega))
    have h2 := hv.2 (32 * i r + r.val) (by have := hi r; have := r.isLt; omega) hne
    show ev (l b.val) r.val (i r) / wv (u b.val) r.val (i r)
      < ev (l b.val) (v % 32) (i ⟨v % 32, _⟩) / wv (u b.val) (v % 32) (i ⟨v % 32, _⟩)
    rw [hstar, hev, hwv]
    rw [div_lt_div_iff₀ (wv_pos (hu b.val) _ _) (neg_pos.mpr (Real.log_neg (hu _ _).1 (hu _ _).2))]
    exact h2

/-- The row found is the row of the top column. -/
theorem last_row (hu : ∀ b v, 0 < u b v ∧ u b v < 1) (h : RowsInv l u 5 s t e w k) (b : Fin 128) {v : ℕ}
    (hv : Top (l b.val) (u b.val) v) : k0_pay9 (F := Ideal) e w (ix2 0 b) = BitVec.ofNat 32 (v % 32) := by
  obtain ⟨-, q, hq, hlt⟩ := last_rows hu h b hv
  have hle : ∀ r, (q r : EReal) ≤ (q ⟨v % 32, Nat.mod_lt _ (by decide)⟩ : EReal) := fun r => by
    by_cases hr : r = ⟨v % 32, Nat.mod_lt _ (by decide)⟩
    · rw [hr]
    · exact_mod_cast (hlt r hr).le
  rw [p9]
  simp only [hq]
  rw [show Ideal.ofBits .f32 4286578688#32 = (⊥ : EReal) from word_bot, fold_max_at (fun x => (q x : EReal)) _ hle]
  refine Eq.trans (Finset.fold_congr fun r _ => ?_) (fold_first ⟨v % 32, Nat.mod_lt _ (by decide)⟩)
  by_cases hr : r = ⟨v % 32, Nat.mod_lt _ (by decide)⟩
  · rw [hr, if_pos rfl, if_pos rfl]
  · rw [if_neg hr, if_neg fun h0 => (hlt r hr).ne (by exact_mod_cast h0)]

/-- The first result: the top column. -/
theorem last_index (hu : ∀ b v, 0 < u b v ∧ u b v < 1) (h : RowsInv l u 5 s t e w k) (b : Fin 128) {v : ℕ}
    (hv : Top (l b.val) (u b.val) v) : k0_pay12 (F := Ideal) e w k (ix2 0 b) = BitVec.ofNat 32 v := by
  have hrow := last_row hu h b hv
  rw [p12, hrow]
  simp only [select_row _ (⟨v % 32, Nat.mod_lt _ (by decide)⟩ : Fin 32)]
  rw [fold_row _ fun x => k (ix2 x b), (last_rows hu h b hv).1.2]
  show BitVec.ofNat 32 (v / 32) * BitVec.ofNat 32 32 + BitVec.ofNat 32 (v % 32) = _
  rw [← BitVec.ofNat_mul, ← BitVec.ofNat_add, Nat.mul_comm, Nat.div_add_mod]

/-- The second result: the log-probability of the top column. -/
theorem last_logp (hu : ∀ b v, 0 < u b v ∧ u b v < 1) (h : RowsInv l u 5 s t e w k) (b : Fin 128) {v : ℕ}
    (hv : Top (l b.val) (u b.val) v) :
    k0_pay4 (k0_pay8 (F := Ideal) s) (k0_pay11 (F := Ideal) e w e) (ix2 0 b)
      = ((l b.val v - Real.log (expSum (l b.val)) : ℝ) : EReal) := by
  have hrow := last_row hu h b hv
  rw [p4, last_log h, p11, hrow]
  simp only [select_row _ (⟨v % 32, Nat.mod_lt _ (by decide)⟩ : Fin 32)]
  rw [Finset.sum_ite_eq' Finset.univ (⟨v % 32, Nat.mod_lt _ (by decide)⟩ : Fin 32) fun x => e (ix2 x b),
    if_pos (Finset.mem_univ _), (last_rows hu h b hv).1.1, Ideal.log_coe, if_neg (not_le.mpr (Real.exp_pos _)), Real.log_exp,
    ← EReal.coe_sub]

end Last

end Cert.KernelIdeal.Lanes

end
-- ==== Proof.KernelFold.lean ====
/-
  The kernel's results as functions of its two argument arrays: the blocks of the transposed arrays hold the logits and
  the uniform numbers, the scratch rows after each grid step hold the sums and the best pairs of the steps so far, and
  the last step writes the top column, its log-probability and the entropy of each row.
-/
module

public import proofs.«01_k».proof.Proof.KernelEnd
public import proofs.«01_k».proof.Proof.Gen.KernelIdeal.Value

@[expose] public section

noncomputable section

namespace Cert.KernelIdeal.Fold

open Cert.KernelIdeal Cert.KernelIdeal.Gen Cert.KernelIdeal.Value Cert.KernelIdeal.Cases Cert.KernelIdeal.Lanes Cert.Lane
open Idealize.ShloMosaic Idealize.ShloMosaic.TcCoe Idealize.SL.Sem

variable (m : (ℓ : Loc nD τ sig) → Buf (Elt Ideal) ℓ)

/-- The grid's coordinate is the point's number. -/
theorem coord (t : Fin cfg0.N) : (grid0.coords t 0).val = t.val := by
  rcases fin_N0 t with rfl | rfl | rfl | rfl | rfl <;> decide

/-- The block indices of the two input windows. -/
theorem win_idx (t : Fin cfg0.N) : (win0_0.index t 0 = t.val ∧ win0_0.index t 1 = 0) ∧ win0_1.index t 0 = t.val ∧ win0_1.index t 1 = 0 := by
  rcases fin_N0 t with rfl | rfl | rfl | rfl | rfl <;> decide

/-- The first window's array is the transposed logits. -/
theorem arr0 (c : Dev nD) : V m c main_call0_v0
    = transpose S100000x128 [1, 0] (m ((c : Thread nD τ).loc main_arg0)) transposes_S128x100000_S100000x128_1_0 := by
  unfold V
  after_results_simp
  rfl

/-- The second window's array is the transposed uniform numbers. -/
theorem arr1 (c : Dev nD) : V m c main_call0_v1
    = transpose S100000x128 [1, 0] (m ((c : Thread nD τ).loc main_arg1)) transposes_S128x100000_S100000x128_1_0 := by
  unfold V
  after_results_simp
  rfl

/-- The transposed array at an index. -/
theorem transposed (x : Vec Ideal S128x100000 .f32) (v : Fin 100000) (b : Fin 128) :
    transpose S100000x128 [1, 0] x transposes_S128x100000_S100000x128_1_0 (ix2 v b) = x (ix2 b v) := by
  pointwise []

/-- The first window's block at a point. -/
theorem block0 {l : ℕ → ℕ → ℝ} (c : Dev nD) (t : Fin cfg0.N)
    (hl : ∀ (b : Fin 128) (v : Fin 100000), m ((c : Thread nD τ).loc main_arg0) (ix2 b v) = (l b.val v.val : EReal)) :
    Holds (iblk m c 0 t) l t.val := by
  intro q b
  have hi := (win_idx t).1
  have ht : t.val < 5 := lt_of_lt_of_eq t.isLt N_0
  have hq := q.isLt
  rw [← hl b ⟨20000 * t.val + q.val, by omega⟩, ← transposed (m ((c : Thread nD τ).loc main_arg0))]
  unfold iblk
  rw [View.read_apply]
  show V m c main_call0_v0 _ = _
  rw [arr0]
  congr 1
  funext a; apply Fin.ext
  match a with
  | ⟨0, _⟩ => show win0_0.index t 0 * 20000 + 1 * q.val = 20000 * t.val + q.val; rw [hi.1]; omega
  | ⟨1, _⟩ => show win0_0.index t 1 * 128 + 1 * b.val = b.val; rw [hi.2]; omega

/-- The second window's block at a point. -/
theorem block1 {u : ℕ → ℕ → ℝ} (c : Dev nD) (t : Fin cfg0.N)
    (hu : ∀ (b : Fin 128) (v : Fin 100000), m ((c : Thread nD τ).loc main_arg1) (ix2 b v) = (u b.val v.val : EReal)) :
    Holds (iblk m c 1 t) u t.val := by
  intro q b
  have hi := (win_idx t).2
  have ht : t.val < 5 := lt_of_lt_of_eq t.isLt N_0
  have hq := q.isLt
  rw [← hu b ⟨20000 * t.val + q.val, by omega⟩, ← transposed (m ((c : Thread nD τ).loc main_arg1))]
  unfold iblk
  rw [View.read_apply]
  show V m c main_call0_v1 _ = _
  rw [arr1]
  congr 1
  funext a; apply Fin.ext
  match a with
  | ⟨0, _⟩ => show win0_1.index t 0 * 20000 + 1 * q.val = 20000 * t.val + q.val; rw [hi.1]; omega
  | ⟨1, _⟩ => show win0_1.index t 1 * 128 + 1 * b.val = b.val; rw [hi.2]; omega

section Steps
variable {l u : ℕ → ℕ → ℝ} (c : Dev nD)
variable (hu01 : ∀ b v, 0 < u b v ∧ u b v < 1)
variable (hl : ∀ (b : Fin 128) (v : Fin 100000), m ((c : Thread nD τ).loc main_arg0) (ix2 b v) = (l b.val v.val : EReal))
variable (hu : ∀ (b : Fin 128) (v : Fin 100000), m ((c : Thread nD τ).loc main_arg1) (ix2 b v) = (u b.val v.val : EReal))
include hu01 hl hu

/-- The loop of a point's step. -/
theorem point_loop (t : Fin cfg0.N) : LoopInv l u t.val 625 (loopEnd (grid0.coords t) (iblk m c 0 t) (iblk m c 1 t)) := by
  have h := loopEnd_inv hu01 (grid0.coords t) (x0 := iblk m c 0 t) (x1 := iblk m c 1 t)
    (by rw [coord]; exact block0 m c t hl) (by rw [coord]; exact block1 m c t hu)
  rwa [coord] at h

/-- The scratch rows after the first point. -/
theorem point_first (h : 0 < cfg0.N) : RowsInv l u 1 (outsAt0 m c 0 h).2.2.2.1 (outsAt0 m c 0 h).2.2.2.2.1
    (outsAt0 m c 0 h).2.2.2.2.2.1 (outsAt0 m c 0 h).2.2.2.2.2.2.1 (outsAt0 m c 0 h).2.2.2.2.2.2.2 := by
  rw [outsAt0_zero, stAt0_A m c ⟨0, h⟩ _ (Nat.zero_mod _) (by show ¬ 0 % 5 = 4; decide)]
  dsimp only
  rw [sA0, sA1, sA2, sA3, sA4]
  exact merge_inv hu01 (rows_start l u) (point_loop m c hu01 hl hu ⟨0, h⟩)

/-- The scratch rows after a middle point. -/
theorem point_next (n : ℕ) (h : n + 1 < cfg0.N) (hn : n + 1 < 4)
    (ih : RowsInv l u (n + 1) (outsAt0 m c n (Nat.lt_of_succ_lt h)).2.2.2.1 (outsAt0 m c n (Nat.lt_of_succ_lt h)).2.2.2.2.1
      (outsAt0 m c n (Nat.lt_of_succ_lt h)).2.2.2.2.2.1 (outsAt0 m c n (Nat.lt_of_succ_lt h)).2.2.2.2.2.2.1
      (outsAt0 m c n (Nat.lt_of_succ_lt h)).2.2.2.2.2.2.2) :
    RowsInv l u (n + 2) (outsAt0 m c (n + 1) h).2.2.2.1 (outsAt0 m c (n + 1) h).2.2.2.2.1
      (outsAt0 m c (n + 1) h).2.2.2.2.2.1 (outsAt0 m c (n + 1) h).2.2.2.2.2.2.1 (outsAt0 m c (n + 1) h).2.2.2.2.2.2.2 := by
  rw [outsAt0_succ, stAt0_B m c ⟨n + 1, h⟩ _ (by show ¬ (n + 1) % 5 = 0; omega) (by show ¬ (n + 1) % 5 = 4; omega)]
  dsimp only
  rw [sB0, sB1, sB2, sB3, sB4]
  exact merge_inv hu01 ih (point_loop m c hu01 hl hu ⟨n + 1, h⟩)

/-- The scratch rows after the last middle point. -/
theorem point_three (h : 3 < cfg0.N) : RowsInv l u 4 (outsAt0 m c 3 h).2.2.2.1 (outsAt0 m c 3 h).2.2.2.2.1
    (outsAt0 m c 3 h).2.2.2.2.2.1 (outsAt0 m c 3 h).2.2.2.2.2.2.1 (outsAt0 m c 3 h).2.2.2.2.2.2.2 :=
  point_next m c hu01 hl hu 2 h (by decide)
    (point_next m c hu01 hl hu 1 (by omega) (by decide)
      (point_next m c hu01 hl hu 0 (by omega) (by decide) (point_first m c hu01 hl hu (by omega))))

/-- The first result of the last point: the top column of every row. -/
theorem result_index (b : Fin 128) {v : ℕ} (hv : Top (l b.val) (u b.val) v) : G2 m c (ix2 0 b) = BitVec.ofNat 32 v := by
  have h4 : 4 < cfg0.N := lt_of_lt_of_eq (by decide) N_0.symm
  rw [G2_last, ← outsAt0_sweep m c 4 h4, outsAt0_succ, stAt0_C m c ⟨4, h4⟩ _ (by show ¬ 4 % 5 = 0; decide) (by show 4 % 5 = 4; decide)]
  dsimp only
  rw [oC2]
  exact last_index hu01 (merge_inv hu01 (point_three m c hu01 hl hu (by omega)) (point_loop m c hu01 hl hu ⟨4, h4⟩)) b hv

/-- The second result: the log-probability of that column. -/
theorem result_logp (b : Fin 128) {v : ℕ} (hv : Top (l b.val) (u b.val) v) :
    G3 m c (ix2 0 b) = ((l b.val v - Real.log (expSum (l b.val)) : ℝ) : EReal) := by
  have h4 : 4 < cfg0.N := lt_of_lt_of_eq (by decide) N_0.symm
  rw [G3_last, ← outsAt0_sweep m c 4 h4, outsAt0_succ, stAt0_C m c ⟨4, h4⟩ _ (by show ¬ 4 % 5 = 0; decide) (by show 4 % 5 = 4; decide)]
  dsimp only
  rw [oC3]
  exact last_logp hu01 (merge_inv hu01 (point_three m c hu01 hl hu (by omega)) (point_loop m c hu01 hl hu ⟨4, h4⟩)) b hv

/-- The third result: the entropy of the row. -/
theorem result_entropy (b : Fin 128) :
    G4 m c (ix2 0 b) = ((Real.log (expSum (l b.val)) - mulSum (l b.val) / expSum (l b.val) : ℝ) : EReal) := by
  have h4 : 4 < cfg0.N := lt_of_lt_of_eq (by decide) N_0.symm
  rw [G4_last, ← outsAt0_sweep m c 4 h4, outsAt0_succ, stAt0_C m c ⟨4, h4⟩ _ (by show ¬ 4 % 5 = 0; decide) (by show 4 % 5 = 4; decide)]
  dsimp only
  rw [oC4]
  exact last_entropy (merge_inv hu01 (point_three m c hu01 hl hu (by omega)) (point_loop m c hu01 hl hu ⟨4, h4⟩)) b

end Steps

end Cert.KernelIdeal.Fold

end
-- ==== Proof.RefRun.lean ====
/-
  The reference's run: its `main` is a straight line of host operations (`ops`), so it ends with every buffer holding what
  the line leaves there; what it leaves at the three results, as functions of the two arguments.
-/
module

public import proofs.«01_k».proof.Proof.KernelFold
public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.SL.Sem

variable {F : FTy → Type} [FloatOps F]

/-! ## The operations -/

/-- The operations of one call of the reference's log-softmax. -/
def lsOps (arg0 : StableHlo.TRef sig ⟨S128x100000, .f32⟩) (φ : fn_log_softmax.Bufs) : List (HloOp τ sig (Elt F)) :=
  [StableHlo.TRef.nullary φ.cst (constant S_ .f32 0xFF800000#32),
   StableHlo.TRef.binary arg0 φ.cst φ.v0 (fun x v => Host.reduce FloatOps.maximumf x v reducesTo_S128x100000_S128_d1 h_S_),
   StableHlo.TRef.nullary φ.cst_0 (constant S_ .f32 0xFF800000#32),
   StableHlo.TRef.unary φ.cst_0 φ.v1 (broadcastInDim S128 ![] bcast_S_S128),
   StableHlo.TRef.binary φ.v1 φ.v0 φ.v2 maximumf,
   StableHlo.TRef.unary φ.v2 φ.v3 (broadcastInDim S128x1 ![0] bcast_S128_S128x1_0),
   StableHlo.TRef.unary φ.v3 φ.v4 (broadcastInDim S128x100000 ![0, 1] bcast_S128x1_S128x100000_0_1),
   StableHlo.TRef.binary arg0 φ.v4 φ.v5 subf,
   StableHlo.TRef.unary φ.v5 φ.v6 Host.exp,
   StableHlo.TRef.nullary φ.cst_1 (constant S_ .f32 0x00000000#32),
   StableHlo.TRef.binary φ.v6 φ.cst_1 φ.v7 (fun x v => Host.reduceAdd x v reducesTo_S128x100000_S128_d1 h_S_),
   StableHlo.TRef.unary φ.v7 φ.v8 (broadcastInDim S128x1 ![0] bcast_S128_S128x1_0),
   StableHlo.TRef.unary φ.v8 φ.v9 Host.log,
   StableHlo.TRef.unary φ.v9 φ.v10 (broadcastInDim S128x100000 ![0, 1] bcast_S128x1_S128x100000_0_1),
   StableHlo.TRef.binary φ.v5 φ.v10 φ.v11 subf]

/-- The operations of the reference's argmax. -/
def amOps (arg0 : StableHlo.TRef sig ⟨S128x100000, .f32⟩) (φ : fn_argmax.Bufs) : List (HloOp τ sig (Elt F)) :=
  [StableHlo.TRef.nullary φ.v0 (iotaInDim S128x100000 32 1),
   StableHlo.TRef.nullary φ.cst (constant S_ .f32 0xFF800000#32),
   StableHlo.TRef.nullary φ.c (constantI S_ 32 0#32),
   StableHlo.TRef.quaternary arg0 φ.v0 φ.cst φ.c φ.v1_0 (fun x y u v j => (Host.argReduce reducer_argmax_f32_i32 x y u v reducesTo_S128x100000_S128_d1 h_S_ j).1),
   StableHlo.TRef.quaternary arg0 φ.v0 φ.cst φ.c φ.v1_1 (fun x y u v j => (Host.argReduce reducer_argmax_f32_i32 x y u v reducesTo_S128x100000_S128_d1 h_S_ j).2)]

/-- The operations of the reference's reading along the axis. -/
def taOps (arg0 : StableHlo.TRef sig ⟨S128x100000, .f32⟩) (arg1 : StableHlo.TRef sig ⟨S128x1, .i32⟩) (φ : fn_take_along_axis.Bufs) :
    List (HloOp τ sig (Elt F)) :=
  [StableHlo.TRef.nullary φ.c (constantI S_ 32 0#32),
   StableHlo.TRef.unary φ.c φ.v0 (broadcastInDim S128x1 ![] bcast_S_S128x1),
   StableHlo.TRef.binary arg1 φ.v0 φ.v1 (cmpi .slt),
   StableHlo.TRef.nullary φ.c_0 (constantI S_ 32 100000#32),
   StableHlo.TRef.unary φ.c_0 φ.v2 (broadcastInDim S128x1 ![] bcast_S_S128x1),
   StableHlo.TRef.binary arg1 φ.v2 φ.v3 addi,
   StableHlo.TRef.ternary φ.v1 φ.v3 arg1 φ.v4 select,
   StableHlo.TRef.reshape φ.v4 φ.v5 (rfl : (.i32 : EltTy) = .i32) shapeCasts_S128x1_S128x1x1,
   StableHlo.TRef.nullary φ.c_1 (constantI S1 32 99999#32),
   StableHlo.TRef.nullary φ.c_2 (constantI S_ 32 0#32),
   StableHlo.TRef.unary φ.c_2 φ.v6 (broadcastInDim S128x1x1 ![] bcast_S_S128x1x1),
   StableHlo.TRef.binary φ.v5 φ.v6 φ.v7 (cmpi .sge),
   StableHlo.TRef.unary φ.c_1 φ.v8 (broadcastInDim S1x1x1 ![2] bcast_S1_S1x1x1_2),
   StableHlo.TRef.unary φ.v8 φ.v9 (broadcastInDim S128x1x1 ![0, 1, 2] bcast_S1x1x1_S128x1x1_0_1_2),
   StableHlo.TRef.binary φ.v5 φ.v9 φ.v10 (cmpi .sle),
   StableHlo.TRef.binary φ.v7 φ.v10 φ.v11 andi,
   StableHlo.TRef.nullary φ.c_3 (constantI S_ 1 1#1),
   StableHlo.TRef.binary φ.v11 φ.c_3 φ.v12 (fun x v => Host.reduce IntOp.andi x v reducesTo_S128x1x1_S128x1_d2 h_S_),
   StableHlo.TRef.binary arg0 φ.v5 φ.v13 (fun x i => Host.gather gather_S128x100000_S128x1x1_S128x1_n_1_0_0_1_2_11 x i),
   StableHlo.TRef.nullary φ.cst (constant S_ .f32 0x7FC00000#32),
   StableHlo.TRef.unary φ.cst φ.v14 (broadcastInDim S128x1 ![] bcast_S_S128x1),
   StableHlo.TRef.ternary φ.v12 φ.v13 φ.v14 φ.v15 select]

/-- The reference's operations up to the index column. -/
def headOps : List (HloOp τ sig (Elt F)) :=
  [StableHlo.nullary main_cst (constant S_ .f32 0x3F800000#32),
   StableHlo.unary main_cst main_v0 (broadcastInDim S128x100000 ![] bcast_S_S128x100000 : (⟨S_, .f32⟩ : BufTy).Contents (Elt F) → (⟨S128x100000, .f32⟩ : BufTy).Contents (Elt F)),
   StableHlo.binary main_arg0 main_v0 main_v1 (Host.divf : (⟨S128x100000, .f32⟩ : BufTy).Contents (Elt F) → (⟨S128x100000, .f32⟩ : BufTy).Contents (Elt F) → (⟨S128x100000, .f32⟩ : BufTy).Contents (Elt F))] ++
  lsOps (.of main_v1) main_call0 ++
  [StableHlo.unary main_v2 main_v3 (Host.negf : (⟨S128x100000, .f32⟩ : BufTy).Contents (Elt F) → (⟨S128x100000, .f32⟩ : BufTy).Contents (Elt F)),
   StableHlo.unary main_v2 main_v4 (Host.exp : (⟨S128x100000, .f32⟩ : BufTy).Contents (Elt F) → (⟨S128x100000, .f32⟩ : BufTy).Contents (Elt F)),
   StableHlo.binary main_v3 main_v4 main_v5 (mulf : (⟨S128x100000, .f32⟩ : BufTy).Contents (Elt F) → (⟨S128x100000, .f32⟩ : BufTy).Contents (Elt F) → (⟨S128x100000, .f32⟩ : BufTy).Contents (Elt F)),
   StableHlo.nullary main_cst_0 (constant S_ .f32 0x00000000#32),
   StableHlo.binary main_v5 main_cst_0 main_v6 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
   StableHlo.unary main_arg1 main_v7 (Host.log : (⟨S128x100000, .f32⟩ : BufTy).Contents (Elt F) → (⟨S128x100000, .f32⟩ : BufTy).Contents (Elt F)),
   StableHlo.unary main_v7 main_v8 (Host.negf : (⟨S128x100000, .f32⟩ : BufTy).Contents (Elt F) → (⟨S128x100000, .f32⟩ : BufTy).Contents (Elt F)),
   StableHlo.unary main_v8 main_v9 (Host.log : (⟨S128x100000, .f32⟩ : BufTy).Contents (Elt F) → (⟨S128x100000, .f32⟩ : BufTy).Contents (Elt F)),
   StableHlo.unary main_v9 main_v10 (Host.negf : (⟨S128x100000, .f32⟩ : BufTy).Contents (Elt F) → (⟨S128x100000, .f32⟩ : BufTy).Contents (Elt F)),
   StableHlo.binary main_v10 main_v1 main_v11 (addf : (⟨S128x100000, .f32⟩ : BufTy).Contents (Elt F) → (⟨S128x100000, .f32⟩ : BufTy).Contents (Elt F) → (⟨S128x100000, .f32⟩ : BufTy).Contents (Elt F))] ++
  amOps (.of main_v11) main_call1 ++
  lsOps (.of main_v1) main_call2 ++
  [StableHlo.unary main_v12 main_v14 (broadcastInDim S128x1 ![0] bcast_S128_S128x1_0 : (⟨S128, .i32⟩ : BufTy).Contents (Elt F) → (⟨S128x1, .i32⟩ : BufTy).Contents (Elt F))]

/-- The reference's operations from the reading along the axis. -/
def tailOps : List (HloOp τ sig (Elt F)) :=
  taOps (.of main_v13) (.of main_v14) main_call3 ++
  [StableHlo.reshape main_v15 main_v16 (rfl : (.f32 : EltTy) = .f32) shapeCasts_S128x1_S128,
   StableHlo.unary main_v12 main_v17 (broadcastInDim S1x128 ![1] bcast_S128_S1x128_1 : (⟨S128, .i32⟩ : BufTy).Contents (Elt F) → (⟨S1x128, .i32⟩ : BufTy).Contents (Elt F)),
   StableHlo.unary main_v16 main_v18 (broadcastInDim S1x128 ![1] bcast_S128_S1x128_1 : (⟨S128, .f32⟩ : BufTy).Contents (Elt F) → (⟨S1x128, .f32⟩ : BufTy).Contents (Elt F)),
   StableHlo.unary main_v6 main_v19 (broadcastInDim S1x128 ![1] bcast_S128_S1x128_1 : (⟨S128, .f32⟩ : BufTy).Contents (Elt F) → (⟨S1x128, .f32⟩ : BufTy).Contents (Elt F))]

/-- The reference's operations in order. -/
def ops : List (HloOp τ sig (Elt F)) := headOps ++ tailOps

/-- The program is the line of its operations. -/
theorem main_seq (d : Dev nD) : StableHlo.IsSeq (main (F := F) d) ops := rfl

/-! ## What the line leaves at the results -/

/-- Log-softmax along the rows. -/
def lsVal (x : FVec F S128x100000 .f32) : FVec F S128x100000 .f32 :=
  let d := subf x (broadcastInDim S128x100000 ![0, 1] bcast_S128x1_S128x100000_0_1 (broadcastInDim S128x1 ![0] bcast_S128_S128x1_0
    (maximumf (broadcastInDim S128 ![] bcast_S_S128 (constant S_ .f32 0xFF800000#32))
      (Host.reduce FloatOps.maximumf x (constant S_ .f32 0xFF800000#32) reducesTo_S128x100000_S128_d1 h_S_))))
  subf d (broadcastInDim S128x100000 ![0, 1] bcast_S128x1_S128x100000_0_1 (Host.log (broadcastInDim S128x1 ![0] bcast_S128_S128x1_0
    (Host.reduceAdd (Host.exp d) (constant S_ .f32 0x00000000#32) reducesTo_S128x100000_S128_d1 h_S_))))

/-- The first index of the largest entry of each row. -/
def amVal (x : FVec F S128x100000 .f32) : IVec S128 32 := fun j =>
  (Host.argReduce reducer_argmax_f32_i32 x (iotaInDim S128x100000 32 1) (constant S_ .f32 0xFF800000#32) (constantI S_ 32 0#32)
    reducesTo_S128x100000_S128_d1 h_S_ j).2

/-- The index column a reading along the axis uses: a negative index counts from the end. -/
def ixVal (k : IVec S128x1 32) : IVec S128x1x1 32 :=
  shapeCast S128x1x1 (select (cmpi .slt k (broadcastInDim S128x1 ![] bcast_S_S128x1 (constantI S_ 32 0#32)))
    (addi k (broadcastInDim S128x1 ![] bcast_S_S128x1 (constantI S_ 32 100000#32))) k) shapeCasts_S128x1_S128x1x1

/-- Reading one entry of each row along the axis: out of range it is not a number. -/
def taVal (x : FVec F S128x100000 .f32) (k : IVec S128x1 32) : FVec F S128x1 .f32 :=
  select
    (Host.reduce IntOp.andi
      (andi (cmpi .sge (ixVal k) (broadcastInDim S128x1x1 ![] bcast_S_S128x1x1 (constantI S_ 32 0#32)))
        (cmpi .sle (ixVal k) (broadcastInDim S128x1x1 ![0, 1, 2] bcast_S1x1x1_S128x1x1_0_1_2
          (broadcastInDim S1x1x1 ![2] bcast_S1_S1x1x1_2 (constantI S1 32 99999#32)))))
      (constantI S_ 1 1#1) reducesTo_S128x1x1_S128x1_d2 h_S_)
    (Host.gather gather_S128x100000_S128x1x1_S128x1_n_1_0_0_1_2_11 x (ixVal k))
    (broadcastInDim S128x1 ![] bcast_S_S128x1 (constant S_ .f32 0x7FC00000#32))

/-- The logits over the temperature. -/
def xVal (a : FVec F S128x100000 .f32) : FVec F S128x100000 .f32 :=
  Host.divf a (broadcastInDim S128x100000 ![] bcast_S_S128x100000 (constant S_ .f32 0x3F800000#32))

/-- The perturbed logits. -/
def gVal (a b : FVec F S128x100000 .f32) : FVec F S128x100000 .f32 :=
  addf (Host.negf (Host.log (Host.negf (Host.log b)))) (xVal a)

/-- The first result. -/
def res0 (a b : FVec F S128x100000 .f32) : IVec S1x128 32 := broadcastInDim S1x128 ![1] bcast_S128_S1x128_1 (amVal (gVal a b))

/-- The second result. -/
def res1 (a b : FVec F S128x100000 .f32) : FVec F S1x128 .f32 :=
  broadcastInDim S1x128 ![1] bcast_S128_S1x128_1 (shapeCast S128
    (taVal (lsVal (xVal a)) (broadcastInDim S128x1 ![0] bcast_S128_S128x1_0 (amVal (gVal a b)))) shapeCasts_S128x1_S128)

/-- The third result. -/
def res2 (a : FVec F S128x100000 .f32) : FVec F S1x128 .f32 :=
  broadcastInDim S1x128 ![1] bcast_S128_S1x128_1 (Host.reduceAdd (mulf (Host.negf (lsVal (xVal a))) (Host.exp (lsVal (xVal a))))
    (constant S_ .f32 0x00000000#32) reducesTo_S128x100000_S128_d1 h_S_)

section Reads
variable (m : (ℓ : Loc nD τ sig) → Buf (Elt F) ℓ) (d : Dev nD)

/-- The first result's buffer. -/
theorem read0 : StableHlo.after ops (StableHlo.launchContents m d) (Proc.devRef .tc main_v17)
    = res0 (m ((d.tc : Thread nD τ).loc main_arg0)) (m ((d.tc : Thread nD τ).loc main_arg1)) := by
  after_reads_simp [StableHlo.TRef.ofBuf_toBuf]
  rfl

/-- What the tail leaves at the second result, from any contents. -/
theorem tail_read (W : Valuation τ sig (Elt F)) : StableHlo.after tailOps W (Proc.devRef .tc main_v18)
    = broadcastInDim S1x128 ![1] bcast_S128_S1x128_1 (shapeCast S128
      (taVal (W (Proc.devRef .tc main_v13)) (W (Proc.devRef .tc main_v14))) shapeCasts_S128x1_S128) := by
  after_reads_simp [StableHlo.TRef.ofBuf_toBuf]
  rfl

/-- What the head leaves at the second call's result. -/
theorem head_ls : StableHlo.after headOps (StableHlo.launchContents m d) (Proc.devRef .tc main_v13)
    = lsVal (xVal (m ((d.tc : Thread nD τ).loc main_arg0))) := by
  after_reads_simp [StableHlo.TRef.ofBuf_toBuf]
  rfl

/-- What the head leaves at the index column. -/
theorem head_ix : StableHlo.after headOps (StableHlo.launchContents m d) (Proc.devRef .tc main_v14)
    = broadcastInDim S128x1 ![0] bcast_S128_S128x1_0
      (amVal (gVal (m ((d.tc : Thread nD τ).loc main_arg0)) (m ((d.tc : Thread nD τ).loc main_arg1)))) := by
  after_reads_simp [StableHlo.TRef.ofBuf_toBuf]
  rfl

/-- The line is its head, then its tail. -/
theorem after_ops (V : Valuation τ sig (Elt F)) : StableHlo.after ops V = StableHlo.after tailOps (StableHlo.after headOps V) := by
  unfold ops
  exact StableHlo.after_append _ _ _

/-- The second result's buffer. -/
theorem read1 : StableHlo.after ops (StableHlo.launchContents m d) (Proc.devRef .tc main_v18)
    = res1 (m ((d.tc : Thread nD τ).loc main_arg0)) (m ((d.tc : Thread nD τ).loc main_arg1)) := by
  rw [after_ops, tail_read, head_ls, head_ix]
  rfl

/-- The third result's buffer. -/
theorem read2 : StableHlo.after ops (StableHlo.launchContents m d) (Proc.devRef .tc main_v19)
    = res2 (m ((d.tc : Thread nD τ).loc main_arg0)) := by
  after_reads_simp [StableHlo.TRef.ofBuf_toBuf]
  rfl

/-- The first argument is not written. -/
theorem readArg0 : StableHlo.after ops (StableHlo.launchContents m d) (Proc.devRef .tc main_arg0)
    = m ((d.tc : Thread nD τ).loc main_arg0) := by
  after_reads_simp [StableHlo.TRef.ofBuf_toBuf]

/-- The second argument is not written. -/
theorem readArg1 : StableHlo.after ops (StableHlo.launchContents m d) (Proc.devRef .tc main_arg1)
    = m ((d.tc : Thread nD τ).loc main_arg1) := by
  after_reads_simp [StableHlo.TRef.ofBuf_toBuf]

/-- Every operation of a call touches the core's buffers only. -/
theorem lsOps_sub (arg0 : StableHlo.TRef sig ⟨S128x100000, .f32⟩) (φ : fn_log_softmax.Bufs) :
    (lsOps arg0 φ : List (HloOp τ sig (Elt F))).Forall fun op => op.bufs ⊆ StableHlo.tcRefs τ sig :=
  ⟨StableHlo.nullary_bufs_sub .., StableHlo.binary_bufs_sub .., StableHlo.nullary_bufs_sub ..,
    StableHlo.unary_bufs_sub .., StableHlo.binary_bufs_sub .., StableHlo.unary_bufs_sub ..,
    StableHlo.unary_bufs_sub .., StableHlo.binary_bufs_sub .., StableHlo.unary_bufs_sub ..,
    StableHlo.nullary_bufs_sub .., StableHlo.binary_bufs_sub .., StableHlo.unary_bufs_sub ..,
    StableHlo.unary_bufs_sub .., StableHlo.unary_bufs_sub .., StableHlo.binary_bufs_sub ..⟩

/-- Every operation of the argmax touches the core's buffers only. -/
theorem amOps_sub (arg0 : StableHlo.TRef sig ⟨S128x100000, .f32⟩) (φ : fn_argmax.Bufs) :
    (amOps arg0 φ : List (HloOp τ sig (Elt F))).Forall fun op => op.bufs ⊆ StableHlo.tcRefs τ sig :=
  ⟨StableHlo.nullary_bufs_sub .., StableHlo.nullary_bufs_sub .., StableHlo.nullary_bufs_sub ..,
    StableHlo.quaternary_bufs_sub .., StableHlo.quaternary_bufs_sub ..⟩

/-- Every operation of the reading along the axis touches the core's buffers only. -/
theorem taOps_sub (arg0 : StableHlo.TRef sig ⟨S128x100000, .f32⟩) (arg1 : StableHlo.TRef sig ⟨S128x1, .i32⟩) (φ : fn_take_along_axis.Bufs) :
    (taOps arg0 arg1 φ : List (HloOp τ sig (Elt F))).Forall fun op => op.bufs ⊆ StableHlo.tcRefs τ sig :=
  ⟨StableHlo.nullary_bufs_sub .., StableHlo.unary_bufs_sub .., StableHlo.binary_bufs_sub ..,
    StableHlo.nullary_bufs_sub .., StableHlo.unary_bufs_sub .., StableHlo.binary_bufs_sub ..,
    StableHlo.ternary_bufs_sub .., StableHlo.reshape_bufs_sub .., StableHlo.nullary_bufs_sub ..,
    StableHlo.nullary_bufs_sub .., StableHlo.unary_bufs_sub .., StableHlo.binary_bufs_sub ..,
    StableHlo.unary_bufs_sub .., StableHlo.unary_bufs_sub .., StableHlo.binary_bufs_sub ..,
    StableHlo.binary_bufs_sub .., StableHlo.nullary_bufs_sub .., StableHlo.binary_bufs_sub ..,
    StableHlo.binary_bufs_sub .., StableHlo.nullary_bufs_sub .., StableHlo.unary_bufs_sub ..,
    StableHlo.ternary_bufs_sub ..⟩

/-- Every operation of the head touches the core's buffers only. -/
theorem headOps_sub : (headOps : List (HloOp τ sig (Elt F))).Forall fun op => op.bufs ⊆ StableHlo.tcRefs τ sig :=
  List.forall_append.mpr ⟨List.forall_append.mpr ⟨List.forall_append.mpr ⟨List.forall_append.mpr ⟨List.forall_append.mpr ⟨(⟨StableHlo.nullary_bufs_sub .., StableHlo.unary_bufs_sub .., StableHlo.binary_bufs_sub ..⟩),
    lsOps_sub ..⟩,
    (⟨StableHlo.unary_bufs_sub .., StableHlo.unary_bufs_sub .., StableHlo.binary_bufs_sub ..,
    StableHlo.nullary_bufs_sub .., StableHlo.binary_bufs_sub .., StableHlo.unary_bufs_sub ..,
    StableHlo.unary_bufs_sub .., StableHlo.unary_bufs_sub .., StableHlo.unary_bufs_sub ..,
    StableHlo.binary_bufs_sub ..⟩)⟩,
    amOps_sub ..⟩,
    lsOps_sub ..⟩,
    StableHlo.unary_bufs_sub ..⟩

/-- Every operation of the tail touches the core's buffers only. -/
theorem tailOps_sub : (tailOps : List (HloOp τ sig (Elt F))).Forall fun op => op.bufs ⊆ StableHlo.tcRefs τ sig :=
  List.forall_append.mpr ⟨taOps_sub ..,
    (⟨StableHlo.reshape_bufs_sub .., StableHlo.unary_bufs_sub .., StableHlo.unary_bufs_sub ..,
    StableHlo.unary_bufs_sub ..⟩)⟩

/-- Every operation touches the core's buffers only. -/
theorem ops_sub : (ops : List (HloOp τ sig (Elt F))).Forall fun op => op.bufs ⊆ StableHlo.tcRefs τ sig :=
  List.forall_append.mpr ⟨headOps_sub, tailOps_sub⟩

/-- The reference's run: its three results and its arguments. -/
theorem run (ρ : Dev nD → PrngReg) :
    θ_run defs (onTc (τ := τ) (main (F := F))) ⟨m, fun _ => 0, ρ⟩ fun r => ∀ c : Dev nD,
      r.2.mem ((c.tc : Thread nD τ).loc main_v17)
        = res0 (m ((c.tc : Thread nD τ).loc main_arg0)) (m ((c.tc : Thread nD τ).loc main_arg1))
      ∧ r.2.mem ((c.tc : Thread nD τ).loc main_v18)
        = res1 (m ((c.tc : Thread nD τ).loc main_arg0)) (m ((c.tc : Thread nD τ).loc main_arg1))
      ∧ r.2.mem ((c.tc : Thread nD τ).loc main_v19) = res2 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine θ_run_mono (StableHlo.run_hlo defs main main_seq (by decide) (by decide) ?_ ?_ m ρ) fun r h c =>
    ⟨(h c main_v17).trans (read0 m c), (h c main_v18).trans (read1 m c), (h c main_v19).trans (read2 m c),
      (h c main_arg0).trans (readArg0 m c), (h c main_arg1).trans (readArg1 m c)⟩
  · exact ops_sub
  · exact List.forall_iff_forall_mem.mp (StableHlo.forall_fresh_of_map rfl)

/-- The reference's frame. -/
theorem frame (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (run m ρ) fun r h => ⟨fun c => (h c).2.2.2, sem_eq_zero_of_no_sems (by decide) r.2⟩

end Reads

end Cert.ReferenceIdeal.Run

end
-- ==== Proof.RefValue.lean ====
/-
  The reference's results at a row whose logits and uniform numbers are real: the index of the row's top column, its
  log-probability and the entropy of the row, in the same closed forms the kernel's results have.
-/
module

public import proofs.«01_k».proof.Proof.RefRun

@[expose] public section

noncomputable section

namespace Cert.ReferenceIdeal.Closed

open Cert.ReferenceIdeal Cert.ReferenceIdeal.Gen Cert.ReferenceIdeal.Run Cert.Lane Idealize.ShloMosaic
open Cert.KernelIdeal.Lanes (Top expSum mulSum expSum_pos fold_max_at)

/-! ## The arrays at an index -/

section Arrays
variable (a u x : FVec Ideal S128x100000 .f32) (b : Fin 128) (v : Fin 100000)

/-- The logits over the temperature, at an index. -/
theorem x_at : xVal (F := Ideal) a (ix2 b v) = Ideal.div (a (ix2 b v)) (Ideal.ofBits .f32 0x3F800000#32) := by
  pointwise [xVal]

/-- The perturbed logits at an index. -/
theorem g_at : gVal (F := Ideal) a u (ix2 b v)
    = -(Ideal.log (-(Ideal.log (u (ix2 b v))))) + xVal (F := Ideal) a (ix2 b v) := by
  pointwise [gVal]

/-- The largest entry of every row. -/
def maxVal (x : FVec Ideal S128x100000 .f32) : FVec Ideal S128 .f32 :=
  Host.reduce FloatOps.maximumf x (constant S_ .f32 0xFF800000#32) reducesTo_S128x100000_S128_d1 h_S_

/-- Every row less a number of its own, which is at least the bottom. -/
def shiftVal (x : FVec Ideal S128x100000 .f32) (y : FVec Ideal S128 .f32) : FVec Ideal S128x100000 .f32 :=
  subf x (broadcastInDim S128x100000 ![0, 1] bcast_S128x1_S128x100000_0_1 (broadcastInDim S128x1 ![0] bcast_S128_S128x1_0
    (maximumf (broadcastInDim S128 ![] bcast_S_S128 (constant S_ .f32 0xFF800000#32)) y)))

/-- Every row less the logarithm of its sum of exponentials. -/
def normVal (d : FVec Ideal S128x100000 .f32) : FVec Ideal S128x100000 .f32 :=
  subf d (broadcastInDim S128x100000 ![0, 1] bcast_S128x1_S128x100000_0_1 (Host.log (broadcastInDim S128x1 ![0] bcast_S128_S128x1_0
    (Host.reduceAdd (Host.exp d) (constant S_ .f32 0x00000000#32) reducesTo_S128x100000_S128_d1 h_S_))))

/-- The log-softmax in its two steps. -/
theorem ls_eq : lsVal (F := Ideal) x = normVal (shiftVal x (maxVal x)) := rfl

/-- The largest entry of a row is the fold of its entries. -/
theorem max_at : maxVal x (ix1 b)
    = (Finset.univ : Finset (Fin 100000)).fold max (Ideal.ofBits .f32 0xFF800000#32) fun k => x (ix2 b k) := by
  pointwise [maxVal]

/-- A shifted row at an index. -/
theorem shift_at (y : FVec Ideal S128 .f32) :
    shiftVal x y (ix2 b v) = x (ix2 b v) - max (Ideal.ofBits .f32 0xFF800000#32) (y (ix1 b)) := by
  pointwise [shiftVal]

/-- A normalized row at an index. -/
theorem norm_at (d : FVec Ideal S128x100000 .f32) :
    normVal d (ix2 b v) = d (ix2 b v) - Ideal.log (∑ k : Fin 100000, Ideal.exp (d (ix2 b k))) := by
  pointwise [normVal]

/-- The third result at a row. -/
theorem res2_at : res2 (F := Ideal) a (ix2 0 b)
    = ∑ k : Fin 100000, -(lsVal (F := Ideal) (xVal (F := Ideal) a) (ix2 b k)) * Ideal.exp (lsVal (F := Ideal) (xVal (F := Ideal) a) (ix2 b k)) := by
  pointwise [res2]

/-- A row vector laid out as one row, at an index. -/
theorem row_at {α : Type} (y : S128.Idx → α) : broadcastInDim S1x128 ![1] bcast_S128_S1x128_1 y (ix2 0 b) = y (ix1 b) := by
  pointwise []

/-- The first result at a row. -/
theorem res0_at : res0 (F := Ideal) a u (ix2 0 b) = amVal (F := Ideal) (gVal (F := Ideal) a u) (ix1 b) := by
  exact row_at b _

/-- The second result at a row. -/
theorem res1_at : res1 (F := Ideal) a u (ix2 0 b) = taVal (F := Ideal) (lsVal (F := Ideal) (xVal (F := Ideal) a))
    (broadcastInDim S128x1 ![0] bcast_S128_S128x1_0 (amVal (F := Ideal) (gVal (F := Ideal) a u))) (ix2 b 0) := by
  pointwise [res1]

end Arrays

/-! ## Real rows -/

section Reals
variable {l u : ℕ → ℕ → ℝ} {A U : FVec Ideal S128x100000 .f32}

/-- The logits over the temperature are the logits. -/
theorem x_real (hl : ∀ (b : Fin 128) (v : Fin 100000), A (ix2 b v) = (l b.val v.val : EReal)) (b : Fin 128) (v : Fin 100000) :
    xVal (F := Ideal) A (ix2 b v) = (l b.val v.val : EReal) := by
  rw [x_at, hl, word_one, ← EReal.coe_one, Ideal.div_coe one_ne_zero]
  norm_num

/-- The largest entry of a real row is real. -/
theorem max_real {X : FVec Ideal S128x100000 .f32} (hX : ∀ (b : Fin 128) (v : Fin 100000), X (ix2 b v) = (l b.val v.val : EReal))
    (b : Fin 128) : ∃ M : ℝ, maxVal X (ix1 b) = (M : EReal) := by
  obtain ⟨q, hq⟩ := Finite.exists_max fun k : Fin 100000 => l b.val k.val
  refine ⟨l b.val q.val, ?_⟩
  rw [max_at, word_bot, fold_max_at (fun k : Fin 100000 => X (ix2 b k)) q, hX]
  intro k
  rw [hX, hX]
  exact EReal.coe_le_coe_iff.mpr (hq k)

/-- The exponentials of a real row sum to a real number. -/
theorem exp_sum {d : ℕ → ℝ} {D : Fin 100000 → EReal} (hD : ∀ k, D k = (d k.val : EReal)) :
    ∑ k, Ideal.exp (D k) = ((expSum d : ℝ) : EReal) := by
  unfold expSum
  rw [Finset.sum_range, coe_sum]
  refine Finset.sum_congr rfl fun k _ => ?_
  rw [hD, Ideal.exp_coe]

/-- A number taken off every entry comes off the logarithm of the sum of exponentials. -/
theorem log_shift (d : ℕ → ℝ) (M : ℝ) : Real.log (expSum fun k => d k - M) = Real.log (expSum d) - M := by
  have h : expSum (fun k => d k - M) = expSum d / Real.exp M := by
    unfold expSum
    rw [Finset.sum_div]
    exact Finset.sum_congr rfl fun k _ => Real.exp_sub _ _
  rw [h, Real.log_div (expSum_pos d).ne' (Real.exp_pos M).ne', Real.log_exp]

/-- The log-softmax of a real row. -/
theorem ls_real {X : FVec Ideal S128x100000 .f32} (hX : ∀ (b : Fin 128) (v : Fin 100000), X (ix2 b v) = (l b.val v.val : EReal))
    (b : Fin 128) (v : Fin 100000) :
    lsVal (F := Ideal) X (ix2 b v) = ((l b.val v.val - Real.log (expSum (l b.val)) : ℝ) : EReal) := by
  obtain ⟨M, hM⟩ := max_real hX b
  have hs : ∀ k : Fin 100000, shiftVal X (maxVal X) (ix2 b k) = ((l b.val k.val - M : ℝ) : EReal) := fun k => by
    rw [shift_at, hX, hM, word_bot, max_eq_right bot_le, EReal.coe_sub]
  rw [ls_eq, norm_at, hs, exp_sum (d := fun k => l b.val k - M) hs, Ideal.log_coe, if_neg (not_le.mpr (expSum_pos _)), log_shift,
    ← EReal.coe_sub]
  generalize Real.log (expSum (l b.val)) = z
  exact congrArg ((↑) : ℝ → EReal) (by ring)

/-- The third result of real rows: the entropy. -/
theorem entropy_real (hl : ∀ (b : Fin 128) (v : Fin 100000), A (ix2 b v) = (l b.val v.val : EReal)) (b : Fin 128) :
    res2 (F := Ideal) A (ix2 0 b) = ((Real.log (expSum (l b.val)) - mulSum (l b.val) / expSum (l b.val) : ℝ) : EReal) := by
  have e := entropy_eq (n := 100000) (l b.val) (by decide)
  rw [res2_at]
  refine Eq.trans ?_ (congrArg ((↑) : ℝ → EReal) e)
  rw [Finset.sum_range, coe_sum]
  refine Finset.sum_congr rfl fun k _ => ?_
  rw [ls_real (x_real hl), Ideal.exp_coe, ← EReal.coe_neg, ← EReal.coe_mul]
  rfl

/-- The perturbed logits of real rows. -/
theorem g_real (hu01 : ∀ b v, 0 < u b v ∧ u b v < 1)
    (hl : ∀ (b : Fin 128) (v : Fin 100000), A (ix2 b v) = (l b.val v.val : EReal))
    (hu : ∀ (b : Fin 128) (v : Fin 100000), U (ix2 b v) = (u b.val v.val : EReal)) (b : Fin 128) (v : Fin 100000) :
    gVal (F := Ideal) A U (ix2 b v) = ((-Real.log (-Real.log (u b.val v.val)) + l b.val v.val : ℝ) : EReal) := by
  have h := hu01 b.val v.val
  have hw : 0 < -Real.log (u b.val v.val) := neg_pos.mpr (Real.log_neg h.1 h.2)
  rw [g_at, x_real hl, hu, Ideal.log_coe, if_neg (not_le.mpr h.1), ← EReal.coe_neg, Ideal.log_coe, if_neg (not_le.mpr hw),
    ← EReal.coe_neg, ← EReal.coe_add]

/-- A column is above another in the ratios exactly when its perturbed logit is. -/
theorem perturbed_lt {x y w z : ℝ} (hw : 0 < w) (hz : 0 < z) :
    -Real.log w + x < -Real.log z + y ↔ Real.exp x * z < Real.exp y * w := by
  have e : ∀ {p q : ℝ}, 0 < q → Real.log (Real.exp p * q) = p + Real.log q := fun hq => by
    rw [Real.log_mul (Real.exp_pos _).ne' hq.ne', Real.log_exp]
  rw [← Real.log_lt_log_iff (mul_pos (Real.exp_pos x) hz) (mul_pos (Real.exp_pos y) hw), e hz, e hw]
  constructor <;> intro h <;> linarith

/-! ## The index of the top column -/

/-- One step of the arg-max keeps the pair with the larger value. -/
theorem step_gt {p q : Ideal .f32 × BitVec 32} (h : q.1 < p.1) : reducer_argmax_f32_i32 p q = p := by
  have hne : p.1 ≠ q.1 := h.ne'
  simp [reducer_argmax_f32_i32, Ideal.cmpf_def, Ideal.cmp, IntOp.ori, IntOp.andi, Scalar.select, h, hne]

/-- One step of the arg-max takes the new pair when its value is larger. -/
theorem step_lt {p q : Ideal .f32 × BitVec 32} (h : p.1 < q.1) : reducer_argmax_f32_i32 p q = q := by
  have hne : p.1 ≠ q.1 := h.ne
  simp [reducer_argmax_f32_i32, Ideal.cmpf_def, Ideal.cmp, IntOp.ori, IntOp.andi, Scalar.select, h.not_gt, hne]

/-- One step of the arg-max on a pair and itself. -/
theorem step_self (p : Ideal .f32 × BitVec 32) : reducer_argmax_f32_i32 p p = p := by
  simp [reducer_argmax_f32_i32, Ideal.cmpf_def, Ideal.cmp, IntOp.ori, IntOp.andi, IntOp.cmpi, Scalar.select]

/-- One step of the arg-max leaves one of the two values. -/
theorem step_below {p q : Ideal .f32 × BitVec 32} {t : EReal} (hp : p.1 < t) (hq : q.1 < t) :
    (reducer_argmax_f32_i32 p q).1 < t := by
  simp only [reducer_argmax_f32_i32, Scalar.select]
  split <;> assumption

/-- The fold of the arg-max over a list holding one strictly largest pair is that pair. -/
theorem fold_top {p : Ideal .f32 × BitVec 32} (L : List (Ideal .f32 × BitVec 32)) (a : Ideal .f32 × BitVec 32)
    (ha : a = p ∨ (a.1 < p.1 ∧ p ∈ L)) (hL : ∀ q ∈ L, q = p ∨ q.1 < p.1) : L.foldl reducer_argmax_f32_i32 a = p := by
  induction L generalizing a with
  | nil => exact ha.elim id fun h => absurd h.2 List.not_mem_nil
  | cons q L ih =>
    refine ih _ ?_ fun r hr => hL r (List.mem_cons_of_mem _ hr)
    rcases hL q List.mem_cons_self with rfl | hq
    · rcases ha with rfl | ha
      · exact Or.inl (step_self _)
      · exact Or.inl (step_lt ha.1)
    · rcases ha with rfl | ha
      · exact Or.inl (step_gt hq)
      · refine Or.inr ⟨step_below ha.1 hq, ?_⟩
        rcases List.mem_cons.mp ha.2 with h | h
        · exact absurd (h ▸ hq) (lt_irrefl _)
        · exact h

/-- The pairs of a fiber are those of the indices that drop to its place. -/
theorem mem_fiber {α β : Type} {s t : Shape} {axes : List (Fin s.rank)} (x : s.Idx → α) (y : s.Idx → β) (h : s.ReducesTo axes t)
    (j : t.Idx) (q : α × β) : q ∈ Host.argReduceFiber x y h j ↔ ∃ i, h.drop i = j ∧ (x i, y i) = q := by
  simp only [Host.argReduceFiber, List.mem_map, List.mem_filter, List.mem_finRange, true_and, decide_eq_true_eq]
  exact ⟨fun ⟨n, hn, e⟩ => ⟨_, hn, e⟩, fun ⟨i, hi, e⟩ => ⟨s.rowMajor i, by rwa [Equiv.symm_apply_apply], by rwa [Equiv.symm_apply_apply]⟩⟩

/-- An index of the array drops to a row when it lies in it. -/
theorem drop_row (i : S128x100000.Idx) (b : Fin 128) : reducesTo_S128x100000_S128_d1.drop i = ix1 b ↔ i 0 = b := by
  have e := Shape.ReducesTo.drop_apply_val_of_eq reducesTo_S128x100000_S128_d1 i 0 0
  constructor
  · intro h
    rw [h] at e
    exact Fin.ext e.symm
  · intro h
    funext c
    match c with
    | ⟨0, _⟩ => exact Fin.ext (e.trans (congrArg Fin.val h))

/-- The column numbers at an index. -/
theorem iota_at (b : Fin 128) (w : Fin 100000) : iotaInDim S128x100000 32 1 (ix2 b w) = BitVec.ofNat 32 w.val := by
  pointwise []

/-- An index is its two coordinates. -/
theorem index_eq (i : S128x100000.Idx) (b : Fin 128) (hn : i 0 = b) : ∃ v : Fin 100000, i = ix2 b v := by
  refine ⟨i 1, ?_⟩
  funext c
  match c with
  | ⟨0, _⟩ => exact hn
  | ⟨1, _⟩ => rfl

/-- A second component read through the function it is of. -/
theorem snd_of {ι α β : Type} {g : ι → β} {p : α × β} (f : ι → α × β) (hg : g = fun j => (f j).2) (j : ι) (h : f j = p) :
    g j = p.2 := by
  rw [hg, ← h]

/-- The arg-max keeps the second components of the reduction. -/
theorem am_fun (X : FVec Ideal S128x100000 .f32) : amVal (F := Ideal) X = fun j =>
    (Host.argReduce reducer_argmax_f32_i32 X (iotaInDim S128x100000 32 1) (constant (F := Ideal) S_ .f32 0xFF800000#32)
      (constantI S_ 32 0#32) reducesTo_S128x100000_S128_d1 h_S_ j).2 := by
  rfl

/-- The reduction at a row is the fold over the row's pairs. -/
theorem pair_at (X : FVec Ideal S128x100000 .f32) (j : S128.Idx) :
    Host.argReduce reducer_argmax_f32_i32 X (iotaInDim S128x100000 32 1) (constant (F := Ideal) S_ .f32 0xFF800000#32)
      (constantI S_ 32 0#32) reducesTo_S128x100000_S128_d1 h_S_ j
    = (Host.argReduceFiber X (iotaInDim S128x100000 32 1) reducesTo_S128x100000_S128_d1 j).foldl reducer_argmax_f32_i32
      (Ideal.ofBits .f32 0xFF800000#32, 0#32) := by
  rw [Ideal.argReduce_eq_reduce2]
  exact Host.reduce2_eq_foldl_fiber _ _ _ _ _ _ _ _

/-- The index an arg-max along the rows gives at a row with one strictly largest entry. -/
theorem am_at {X : FVec Ideal S128x100000 .f32} (b : Fin 128) (w : Fin 100000) (h0 : ⊥ < X (ix2 b w))
    (hw : ∀ v, v ≠ w → X (ix2 b v) < X (ix2 b w)) : amVal (F := Ideal) X (ix1 b) = BitVec.ofNat 32 w.val := by
  have hd := fun i => drop_row i b
  have hf := fun q => mem_fiber X (iotaInDim S128x100000 32 1) reducesTo_S128x100000_S128_d1 (ix1 b) q
  generalize hL : Host.argReduceFiber X (iotaInDim S128x100000 32 1) reducesTo_S128x100000_S128_d1 (ix1 b) = L at hf
  refine snd_of (p := (X (ix2 b w), BitVec.ofNat 32 w.val)) _ (am_fun X) (ix1 b) ?_
  rw [pair_at, hL, fold_top (p := (X (ix2 b w), BitVec.ofNat 32 w.val)) L]
  · refine Or.inr ⟨?_, (hf _).mpr ⟨ix2 b w, (hd _).mpr rfl, by rw [iota_at]⟩⟩
    show Ideal.ofBits .f32 0xFF800000#32 < _
    rw [word_bot]; exact h0
  · intro q hq
    obtain ⟨i, hn, rfl⟩ := (hf q).mp hq
    obtain ⟨v, rfl⟩ := index_eq i b ((hd i).mp hn)
    by_cases hv : v = w
    · rw [hv, iota_at]
      exact Or.inl rfl
    · exact Or.inr (hw _ hv)

/-! ## Reading the top column -/

/-- Whether an index column lies in the row. -/
def inRow (i : IVec S128x1x1 32) : IVec S128x1 1 :=
  Host.reduce IntOp.andi
    (andi (cmpi .sge i (broadcastInDim S128x1x1 ![] bcast_S_S128x1x1 (constantI S_ 32 0#32)))
      (cmpi .sle i (broadcastInDim S128x1x1 ![0, 1, 2] bcast_S1x1x1_S128x1x1_0_1_2
        (broadcastInDim S1x1x1 ![2] bcast_S1_S1x1x1_2 (constantI S1 32 99999#32)))))
    (constantI S_ 1 1#1) reducesTo_S128x1x1_S128x1_d2 h_S_

/-- The reading along the axis from its index column. -/
theorem ta_eq (X : FVec Ideal S128x100000 .f32) (k : IVec S128x1 32) : taVal (F := Ideal) X k
    = select (inRow (ixVal k)) (Host.gather gather_S128x100000_S128x1x1_S128x1_n_1_0_0_1_2_11 X (ixVal k))
      (broadcastInDim S128x1 ![] bcast_S_S128x1 (constant (F := Ideal) S_ .f32 0x7FC00000#32)) := rfl

/-- A selected entry. -/
theorem select_at {α : Type} (c : IVec S128x1 1) (x y : S128x1.Idx → α) (j : S128x1.Idx) (h : c j = 1#1) : select c x y j = x j := by
  show Scalar.select (c j) (x j) (y j) = x j
  rw [h]; rfl

/-- The index column at a row. -/
theorem ix_at (k : IVec S128x1 32) (b : Fin 128) : ixVal k (ix3 b 0 0)
    = Scalar.select (IntOp.cmpi .slt (k (ix2 b 0)) 0#32) (IntOp.addi (k (ix2 b 0)) 100000#32) (k (ix2 b 0)) := by
  pointwise [ixVal]

/-- The range check at a row. -/
theorem inRow_at (i : IVec S128x1x1 32) (b : Fin 128) : inRow i (ix2 b 0)
    = (Finset.univ : Finset (Fin 1)).fold IntOp.andi 1#1 fun x =>
        IntOp.andi (IntOp.cmpi .sge (i (ix3 b 0 x)) 0#32) (IntOp.cmpi .sle (i (ix3 b 0 x)) 99999#32) := by
  pointwise [inRow]

/-- A column number as a word is not negative. -/
theorem word_not_neg {w : ℕ} (hw : w < 100000) : IntOp.cmpi .slt (BitVec.ofNat 32 w) 0#32 = 0#1 := by
  simp only [IntOp.cmpi]
  rw [BitVec.slt_eq_decide, BitVec.toInt_eq_toNat_of_lt (by rw [BitVec.toNat_ofNat]; omega), BitVec.toNat_ofNat,
    show (0#32).toInt = 0 from rfl, decide_eq_false (by omega)]
  rfl

/-- A column number as a word is not negative, the other way round. -/
theorem word_ge {w : ℕ} (hw : w < 100000) : IntOp.cmpi .sge (BitVec.ofNat 32 w) 0#32 = 1#1 := by
  simp only [IntOp.cmpi]
  rw [BitVec.sle_eq_decide, BitVec.toInt_eq_toNat_of_lt (x := BitVec.ofNat 32 w) (by rw [BitVec.toNat_ofNat]; omega), BitVec.toNat_ofNat,
    show (0#32).toInt = 0 from rfl, decide_eq_true (by omega)]
  rfl

/-- A column number as a word is at most the last one. -/
theorem word_le {w : ℕ} (hw : w < 100000) : IntOp.cmpi .sle (BitVec.ofNat 32 w) 99999#32 = 1#1 := by
  have e : (99999#32).toInt = 99999 := by decide
  simp only [IntOp.cmpi]
  rw [BitVec.sle_eq_decide, BitVec.toInt_eq_toNat_of_lt (x := BitVec.ofNat 32 w) (by rw [BitVec.toNat_ofNat]; omega), BitVec.toNat_ofNat, e,
    Nat.mod_eq_of_lt (by omega), decide_eq_true (by omega)]
  rfl

/-- The entry gathered at a row. -/
theorem gather_at {α : Type} (X : S128x100000.Idx → α) (i : IVec S128x1x1 32) (b : Fin 128) :
    Host.gather gather_S128x100000_S128x1x1_S128x1_n_1_0_0_1_2_11 X i (ix2 b 0)
      = X (ix2 b ⟨min (i (ix3 b 0 0)).toInt.toNat (100000 - 1), by omega⟩) := by
  have h0 : (0 : Fin 2) ∈ (gather_S128x100000_S128x1x1_S128x1_n_1_0_0_1_2_11).operandBatchingDims := List.mem_singleton.mpr rfl
  have h1 : (1 : Fin 2) ∈ (gather_S128x100000_S128x1x1_S128x1_n_1_0_0_1_2_11).startIndexMap := List.mem_singleton.mpr rfl
  unfold Host.gather
  congr 1
  funext a
  refine Fin.ext ?_
  show (gather_S128x100000_S128x1x1_S128x1_n_1_0_0_1_2_11).start (ix2 b 0) i a
    + (gather_S128x100000_S128x1x1_S128x1_n_1_0_0_1_2_11).batchCoord (ix2 b 0) a
    + (gather_S128x100000_S128x1x1_S128x1_n_1_0_0_1_2_11).offCoord (ix2 b 0) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ h0,
      GatherDims.offCoord_eq_zero _ _ _ (fun h => ((GatherDims.mem_sKept _ _).mp h).2 h0)]
    unfold GatherDims.batchCoord
    rw [dif_pos h0]
    simp only [Nat.zero_add, Nat.add_zero]
    rfl
  · rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos h1]
    have hsi : (gather_S128x100000_S128x1x1_S128x1_n_1_0_0_1_2_11).siIdx (ix2 b 0)
        ⟨List.idxOf (1 : Fin 2) (gather_S128x100000_S128x1x1_S128x1_n_1_0_0_1_2_11).startIndexMap, List.idxOf_lt_length_iff.2 h1⟩
        = ix3 b 0 0 := by
      funext c; refine Fin.ext ?_
      match c with
      | ⟨0, _⟩ => rfl
      | ⟨1, _⟩ => rfl
      | ⟨2, _⟩ => rfl
    rw [hsi]
    rfl

/-- The reading along the axis at a row whose index is a column. -/
theorem ta_at (X : FVec Ideal S128x100000 .f32) (k : IVec S128x1 32) (b : Fin 128) (w : Fin 100000)
    (hk : k (ix2 b 0) = BitVec.ofNat 32 w.val) : taVal (F := Ideal) X k (ix2 b 0) = X (ix2 b w) := by
  have hi : ixVal k (ix3 b 0 0) = BitVec.ofNat 32 w.val := by
    rw [ix_at, hk, word_not_neg w.isLt]; rfl
  have hm : inRow (ixVal k) (ix2 b 0) = 1#1 := by
    rw [inRow_at, Finset.univ_unique, Finset.fold_singleton]
    show IntOp.andi (IntOp.andi (IntOp.cmpi .sge (ixVal k (ix3 b 0 0)) 0#32) (IntOp.cmpi .sle (ixVal k (ix3 b 0 0)) 99999#32)) 1#1 = 1#1
    rw [hi, word_ge w.isLt, word_le w.isLt]
    rfl
  rw [ta_eq, select_at _ _ _ _ hm, gather_at]
  congr 2
  refine Fin.ext ?_
  have hw := w.isLt
  show min (ixVal k (ix3 b 0 0)).toInt.toNat (100000 - 1) = w.val
  rw [hi, BitVec.toInt_eq_toNat_of_lt (x := BitVec.ofNat 32 w.val) (by rw [BitVec.toNat_ofNat]; omega), BitVec.toNat_ofNat,
    Nat.mod_eq_of_lt (by omega)]
  omega

/-! ## The first two results -/

/-- A row vector laid out as one column, at an index. -/
theorem column_at {α : Type} (b : Fin 128) (y : S128.Idx → α) :
    broadcastInDim S128x1 ![0] bcast_S128_S128x1_0 y (ix2 b 0) = y (ix1 b) := by
  pointwise []

/-- The top column's perturbed logit is above all others of its row. -/
theorem top_lt (hu01 : ∀ b v, 0 < u b v ∧ u b v < 1)
    (hl : ∀ (b : Fin 128) (v : Fin 100000), A (ix2 b v) = (l b.val v.val : EReal))
    (hu : ∀ (b : Fin 128) (v : Fin 100000), U (ix2 b v) = (u b.val v.val : EReal)) (b : Fin 128) (w : Fin 100000)
    (hw : Top (l b.val) (u b.val) w.val) (v : Fin 100000) (hv : v ≠ w) :
    gVal (F := Ideal) A U (ix2 b v) < gVal (F := Ideal) A U (ix2 b w) := by
  have hp : ∀ k, 0 < -Real.log (u b.val k) := fun k => neg_pos.mpr (Real.log_neg (hu01 _ _).1 (hu01 _ _).2)
  rw [g_real hu01 hl hu, g_real hu01 hl hu, EReal.coe_lt_coe_iff, perturbed_lt (hp _) (hp _)]
  exact hw.2 v.val v.isLt fun h => hv (Fin.ext h)

/-- The first result of real rows: the top column. -/
theorem index_real (hu01 : ∀ b v, 0 < u b v ∧ u b v < 1)
    (hl : ∀ (b : Fin 128) (v : Fin 100000), A (ix2 b v) = (l b.val v.val : EReal))
    (hu : ∀ (b : Fin 128) (v : Fin 100000), U (ix2 b v) = (u b.val v.val : EReal)) (b : Fin 128) (w : Fin 100000)
    (hw : Top (l b.val) (u b.val) w.val) :
    amVal (F := Ideal) (gVal (F := Ideal) A U) (ix1 b) = BitVec.ofNat 32 w.val :=
  am_at b w (by rw [g_real hu01 hl hu]; exact EReal.bot_lt_coe _) (top_lt hu01 hl hu b w hw)

/-- The second result of real rows: the log-probability of the top column. -/
theorem logp_real (hu01 : ∀ b v, 0 < u b v ∧ u b v < 1)
    (hl : ∀ (b : Fin 128) (v : Fin 100000), A (ix2 b v) = (l b.val v.val : EReal))
    (hu : ∀ (b : Fin 128) (v : Fin 100000), U (ix2 b v) = (u b.val v.val : EReal)) (b : Fin 128) (w : Fin 100000)
    (hw : Top (l b.val) (u b.val) w.val) :
    res1 (F := Ideal) A U (ix2 0 b) = ((l b.val w.val - Real.log (expSum (l b.val)) : ℝ) : EReal) := by
  have hk : broadcastInDim S128x1 ![0] bcast_S128_S128x1_0 (amVal (F := Ideal) (gVal (F := Ideal) A U)) (ix2 b 0)
      = BitVec.ofNat 32 w.val := by
    rw [← index_real hu01 hl hu b w hw]
    exact column_at b _
  rw [res1_at, ta_at _ _ b w hk, ls_real (x_real hl)]

end Reals

end Cert.ReferenceIdeal.Closed

end
-- ==== Proof.Pre.lean ====
/-
  What the precondition says of the two arguments: the logits and the uniform numbers are real, the latter strictly
  between zero and one, and every row has one top column.
-/
module

public import proofs.«01_k».proof.Proof.RefValue
public import proofs.«01_k».proof.Pre_drawn
public import Idealize.ShloMosaic.Lib.StableHlo.Predicate

@[expose] public section

noncomputable section

namespace Cert.Drawn

open Cert.Pre_drawn Cert.Pre_drawn.Facts Cert.Lane Idealize.ShloMosaic
open Cert.KernelIdeal.Lanes (Top fold_max_at)

/-- The shape relations of the precondition. -/
theorem facts : Cert.Pre_drawn.Facts where
  reducesTo_S128x100000_S128_d1 := by decide
  h_S_ := by decide
  bcast_S128_S128x1_0 := by decide
  bcast_S128x1_S128x100000_0_1 := by decide
  natLt_1_32 := by decide
  bcast_S_S128x100000 := by decide
  reducesTo_S128x100000_S_d0_1 := by decide
  bcast_S_S128 := by decide
  reducesTo_S128_S_d0 := by decide

variable [Cert.Pre_drawn.Facts]
variable (A U g : FVec Ideal S128x100000 .f32) (b : Fin 128) (v : Fin 100000)

/-! ## The precondition in pieces -/

/-- The perturbed logits. -/
def score : FVec Ideal S128x100000 .f32 := addf (Host.negf (Host.log (Host.negf (Host.log U)))) A

/-- The largest entry of every row. -/
def rowTop : FVec Ideal S128 .f32 :=
  Host.reduce FloatOps.maximumf g (constant S_ .f32 0xFF800000#32) reducesTo_S128x100000_S128_d1 h_S_

/-- Where an entry equals a number of its row. -/
def attained (y : FVec Ideal S128 .f32) : IVec S128x100000 1 :=
  cmpf .oeq g (broadcastInDim S128x100000 ![0, 1] bcast_S128x1_S128x100000_0_1 (broadcastInDim S128x1 ![0] bcast_S128_S128x1_0 y))

/-- Where the logit is finite and the uniform number strictly between zero and one. -/
def inside : IVec S128x100000 1 :=
  andi (andi (cmpf .ogt A (broadcastInDim S128x100000 ![] bcast_S_S128x100000 (constant S_ .f32 0xFF800000#32)))
      (cmpf .olt A (broadcastInDim S128x100000 ![] bcast_S_S128x100000 (constant S_ .f32 0x7F800000#32))))
    (andi (cmpf .ogt U (broadcastInDim S128x100000 ![] bcast_S_S128x100000 (constant S_ .f32 0x00000000#32)))
      (cmpf .olt U (broadcastInDim S128x100000 ![] bcast_S_S128x100000 (constant S_ .f32 0x3F800000#32))))

/-- How many entries of every row the mask holds. -/
def count (k : IVec S128x100000 1) : IVec S128 32 :=
  Host.reduce IntOp.addi (extui 32 k natLt_1_32) (constantI S_ 32 0#32) reducesTo_S128x100000_S128_d1 h_S_

/-- The precondition from its pieces. -/
theorem fn_eq : fn (F := Ideal) A U
    = andi (Host.reduce IntOp.andi (inside A U) (constantI S_ 1 1#1) reducesTo_S128x100000_S_d0_1 h_S_)
      (Host.reduce IntOp.andi (cmpi .eq (count (attained (score A U) (rowTop (score A U))))
        (broadcastInDim S128 ![] bcast_S_S128 (constantI S_ 32 1#32))) (constantI S_ 1 1#1) reducesTo_S128_S_d0 h_S_) := rfl

/-- A conjunction of two bits is set exactly when both are. -/
theorem and_bits (x y : BitVec 1) : IntOp.andi x y = 1#1 ↔ x = 1#1 ∧ y = 1#1 := by
  unfold IntOp.andi
  revert x y; decide

/-- A conjunction over an array is set only if every bit it runs over is. -/
theorem all_bits {s t w : Shape} {axes : List (Fin s.rank)} (x : IVec s 1) (i : IVec w 1) (h : s.ReducesTo axes t) (hw : 0 < w.numel)
    (j : t.Idx) (e : Host.reduce IntOp.andi x i h hw j = 1#1) (k : s.Idx) (hk : h.drop k = j) : x k = 1#1 := by
  rw [Host.reduce_eq_fold] at e
  have := (Finset.fold_op_rel_iff_and (r := fun (_ y : BitVec 1) => y = 1#1) (op := IntOp.andi) (c := 1#1)
    (hr := fun {p q r} => and_bits q r)).mp e
  exact this.2 k (Finset.mem_filter.mpr ⟨Finset.mem_univ _, hk⟩)

/-- The mask of finite logits and inner uniform numbers, at an index. -/
theorem inside_at : inside A U (ix2 b v)
    = IntOp.andi (IntOp.andi (Ideal.cmp .ogt (A (ix2 b v)) (Ideal.ofBits .f32 0xFF800000#32))
        (Ideal.cmp .olt (A (ix2 b v)) (Ideal.ofBits .f32 0x7F800000#32)))
      (IntOp.andi (Ideal.cmp .ogt (U (ix2 b v)) (Ideal.ofBits .f32 0x00000000#32))
        (Ideal.cmp .olt (U (ix2 b v)) (Ideal.ofBits .f32 0x3F800000#32))) := by
  rfl

/-- The mask of entries equal to their row's number, at an index. -/
theorem attained_at (y : FVec Ideal S128 .f32) : attained g y (ix2 b v) = Ideal.cmp .oeq (g (ix2 b v)) (y (ix1 b)) := by
  have h : broadcastInDim S128x100000 ![0, 1] bcast_S128x1_S128x100000_0_1 (broadcastInDim S128x1 ![0] bcast_S128_S128x1_0 y) (ix2 b v)
      = y (ix1 b) := by
    pointwise []
  show Ideal.cmp .oeq (g (ix2 b v)) (broadcastInDim S128x100000 ![0, 1] bcast_S128x1_S128x100000_0_1
    (broadcastInDim S128x1 ![0] bcast_S128_S128x1_0 y) (ix2 b v)) = _
  rw [h]

/-- The perturbed logit at an index. -/
theorem score_at : score A U (ix2 b v) = -(Ideal.log (-(Ideal.log (U (ix2 b v))))) + A (ix2 b v) := by
  rfl

/-- The largest entry of a row is the fold of its entries. -/
theorem rowTop_at : rowTop g (ix1 b)
    = (Finset.univ : Finset (Fin 100000)).fold max (Ideal.ofBits .f32 0xFF800000#32) fun k => g (ix2 b k) :=
  Cert.ReferenceIdeal.Closed.max_at g b

/-- An index of a rectangle from its two coordinates. -/
theorem ij_eq (b : Fin 128) (v : Fin 100000) : (StableHlo.Predicate.ij b v : S128x100000.Idx) = ix2 b v := by
  funext c
  match c with
  | ⟨0, _⟩ => rfl
  | ⟨1, _⟩ => rfl

/-- The count of a row is the number of its columns in the mask. -/
theorem count_at (k : IVec S128x100000 1) : (count k (ix1 b)).toNat
    = (Finset.univ.filter fun q : Fin 100000 => k (ix2 b q) = 1#1).card := by
  have h := StableHlo.Predicate.toNat_reduce_count_cols (n := 128) (m := 100000) (by decide) k natLt_1_32
    reducesTo_S128x100000_S128_d1 h_S_ (ix1 b)
  refine h.trans ?_
  refine congrArg Finset.card (Finset.filter_congr fun q _ => ?_)
  rw [← ij_eq]
  exact Iff.rfl

/-- The one index of the array of rank zero. -/
def only : S_.Idx := fun a => a.elim0

/-- The precondition at every index and at every row. -/
theorem fn_true (h : fn (F := Ideal) A U = fun _ => 1#1) : (∀ b v, inside A U (ix2 b v) = 1#1)
    ∧ ∀ b : Fin 128, (count (attained (score A U) (rowTop (score A U))) (ix1 b)).toNat = 1 := by
  rw [fn_eq] at h
  have h := (and_bits _ _).mp (congrFun h only)
  refine ⟨fun b v => all_bits _ _ _ _ _ h.1 _ (funext fun a => a.elim0), fun b => ?_⟩
  have e := all_bits _ _ _ _ _ h.2 (ix1 b) (funext fun a => a.elim0)
  generalize count (attained (score A U) (rowTop (score A U))) = k at e ⊢
  have e : IntOp.cmpi .eq (k (ix1 b)) 1#32 = 1#1 := e
  rw [StableHlo.Predicate.cmpi_eq_iff.mp e]
  rfl

/-- Every logit is finite and every uniform number strictly between zero and one. -/
theorem bounds (h : fn (F := Ideal) A U = fun _ => 1#1) :
    (⊥ < A (ix2 b v) ∧ A (ix2 b v) < ⊤) ∧ 0 < U (ix2 b v) ∧ U (ix2 b v) < 1 := by
  have e := (fn_true A U h).1 b v
  rw [inside_at, and_bits, and_bits, and_bits, word_bot, word_top, word_one, Ideal.ofBits_zero_f32] at e
  simpa [Ideal.cmp, StableHlo.Predicate.ofBool_eq_one_iff] using e

/-- One column of every row has a perturbed logit above all others. -/
theorem one_top (h : fn (F := Ideal) A U = fun _ => 1#1) :
    ∃ w : Fin 100000, ∀ v, v ≠ w → score A U (ix2 b v) < score A U (ix2 b w) := by
  have e := (fn_true A U h).2 b
  generalize score A U = g at e ⊢
  rw [count_at, Finset.card_eq_one] at e
  obtain ⟨w, hw⟩ := e
  obtain ⟨q, hq⟩ := Finite.exists_max fun k : Fin 100000 => g (ix2 b k)
  have hm : rowTop g (ix1 b) = g (ix2 b q) := by
    rw [rowTop_at, word_bot, fold_max_at (fun k : Fin 100000 => g (ix2 b k)) q hq]
  have ha : ∀ k : Fin 100000, attained g (rowTop g) (ix2 b k) = 1#1 ↔ g (ix2 b k) = g (ix2 b q) := fun k => by
    rw [attained_at, hm]
    simp [Ideal.cmp, StableHlo.Predicate.ofBool_eq_one_iff]
  have hs : ∀ k : Fin 100000, g (ix2 b k) = g (ix2 b q) ↔ k = w := fun k => by
    have e : k ∈ Finset.univ.filter (fun q : Fin 100000 => attained g (rowTop g) (ix2 b q) = 1#1) ↔ k = w := by
      rw [hw, Finset.mem_singleton]
    rw [← ha, ← e, Finset.mem_filter]
    exact ⟨fun h => ⟨Finset.mem_univ _, h⟩, fun h => h.2⟩
  have hqw : q = w := (hs q).mp rfl
  refine ⟨w, fun v hv => lt_of_le_of_ne (hqw ▸ hq v) fun hc => hv ((hs v).mp (by rw [hc, hqw]))⟩

/-! ## The real data -/

/-- The precondition gives real data and a top column of every row. -/
theorem data (h : fn (F := Ideal) A U = fun _ => 1#1) : ∃ l u : ℕ → ℕ → ℝ, (∀ b v, 0 < u b v ∧ u b v < 1)
    ∧ (∀ (b : Fin 128) (v : Fin 100000), A (ix2 b v) = (l b.val v.val : EReal))
    ∧ (∀ (b : Fin 128) (v : Fin 100000), U (ix2 b v) = (u b.val v.val : EReal))
    ∧ ∀ b : Fin 128, ∃ w : Fin 100000, Top (l b.val) (u b.val) w.val := by
  have hA : ∀ (b : Fin 128) (v : Fin 100000), ((A (ix2 b v)).toReal : EReal) = A (ix2 b v) := fun b v =>
    EReal.coe_toReal (bounds A U b v h).1.2.ne (bounds A U b v h).1.1.ne'
  have hU : ∀ (b : Fin 128) (v : Fin 100000), ((U (ix2 b v)).toReal : EReal) = U (ix2 b v) := fun b v =>
    EReal.coe_toReal (lt_trans (bounds A U b v h).2.2 (EReal.coe_lt_top 1)).ne (lt_trans (EReal.bot_lt_coe 0) (bounds A U b v h).2.1).ne'
  let l : ℕ → ℕ → ℝ := fun b v => if hh : b < 128 ∧ v < 100000 then (A (ix2 ⟨b, hh.1⟩ ⟨v, hh.2⟩)).toReal else 0
  let u : ℕ → ℕ → ℝ := fun b v => if hh : b < 128 ∧ v < 100000 then (U (ix2 ⟨b, hh.1⟩ ⟨v, hh.2⟩)).toReal else 1 / 2
  have hl : ∀ (b : Fin 128) (v : Fin 100000), A (ix2 b v) = (l b.val v.val : EReal) := fun b v => by
    show _ = ((if hh : b.val < 128 ∧ v.val < 100000 then (A (ix2 ⟨b.val, hh.1⟩ ⟨v.val, hh.2⟩)).toReal else 0 : ℝ) : EReal)
    rw [dif_pos ⟨b.isLt, v.isLt⟩, hA]
  have hu : ∀ (b : Fin 128) (v : Fin 100000), U (ix2 b v) = (u b.val v.val : EReal) := fun b v => by
    show _ = ((if hh : b.val < 128 ∧ v.val < 100000 then (U (ix2 ⟨b.val, hh.1⟩ ⟨v.val, hh.2⟩)).toReal else 1 / 2 : ℝ) : EReal)
    rw [dif_pos ⟨b.isLt, v.isLt⟩, hU]
  have hu01 : ∀ b v, 0 < u b v ∧ u b v < 1 := fun b v => by
    by_cases hh : b < 128 ∧ v < 100000
    · have e := hu ⟨b, hh.1⟩ ⟨v, hh.2⟩
      have hb := (bounds A U ⟨b, hh.1⟩ ⟨v, hh.2⟩ h).2
      rw [e] at hb
      exact ⟨EReal.coe_pos.mp hb.1, by exact_mod_cast hb.2⟩
    · have e : u b v = 1 / 2 := dif_neg hh
      rw [e]
      norm_num
  refine ⟨l, u, hu01, hl, hu, fun b => ?_⟩
  obtain ⟨w, hw⟩ := one_top A U b h
  have hp : ∀ k, 0 < -Real.log (u b.val k) := fun k => neg_pos.mpr (Real.log_neg (hu01 _ _).1 (hu01 _ _).2)
  have hg : ∀ v : Fin 100000, score A U (ix2 b v) = ((-Real.log (-Real.log (u b.val v.val)) + l b.val v.val : ℝ) : EReal) := fun v => by
    rw [score_at, hl, hu, Ideal.log_coe, if_neg (not_le.mpr (hu01 _ _).1), ← EReal.coe_neg, Ideal.log_coe, if_neg (not_le.mpr (hp _)),
      ← EReal.coe_neg, ← EReal.coe_add]
  refine ⟨w, w.isLt, fun v' hv' hne => ?_⟩
  have e := hw ⟨v', hv'⟩ fun hc => hne (congrArg Fin.val hc)
  rw [hg, hg, EReal.coe_lt_coe_iff, Cert.ReferenceIdeal.Closed.perturbed_lt (hp _) (hp _)] at e
  exact e

end Cert.Drawn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Pre
public import Idealize.ShloMosaic.Adequacy
public import Idealize.ShloMosaic.Init

@[expose] public section

noncomputable section

namespace Cert.Proof

open Idealize.ShloMosaic Idealize.SL.Sem Cert.Kernel

/-- An index of one row is its column's. -/
theorem row_index (i : (⟨2, ![1, 128]⟩ : Shape).Idx) : ∃ b : Fin 128, i = ix2 0 b := by
  refine ⟨i 1, ?_⟩
  funext c
  match c with
  | ⟨0, _⟩ => exact Fin.ext (by have h := (i 0).isLt; show (i 0).val = 0; change (i 0).val < 1 at h; omega)
  | ⟨1, _⟩ => rfl

/-- The kernel's three results are the reference's, of arguments the precondition holds of. -/
theorem results_eq [Cert.Pre_drawn.Facts] (m : (ℓ : Loc Cert.KernelIdeal.nD Cert.KernelIdeal.τ Cert.KernelIdeal.sig) → Buf (Elt Ideal) ℓ)
    (c : Dev Cert.KernelIdeal.nD)
    (h : Cert.Pre_drawn.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Cert.ReferenceIdeal.Run.res0 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = Cert.KernelIdeal.Value.G2 m c
    ∧ Cert.ReferenceIdeal.Run.res1 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = Cert.KernelIdeal.Value.G3 m c
    ∧ Cert.ReferenceIdeal.Run.res2 (F := Ideal) (m ((c.tc : Thread Cert.KernelIdeal.nD Cert.KernelIdeal.τ).loc Cert.KernelIdeal.main_arg0))
        = Cert.KernelIdeal.Value.G4 m c := by
  obtain ⟨l, u, hu01, hl, hu, ht⟩ := Cert.Drawn.data _ _ h
  refine ⟨funext fun i => ?_, funext fun i => ?_, funext fun i => ?_⟩
  · obtain ⟨b, rfl⟩ := row_index i
    obtain ⟨w, hw⟩ := ht b
    exact ((Cert.ReferenceIdeal.Closed.res0_at _ _ b).trans (Cert.ReferenceIdeal.Closed.index_real hu01 hl hu b w hw)).trans
      (Cert.KernelIdeal.Fold.result_index m c hu01 hl hu b hw).symm
  · obtain ⟨b, rfl⟩ := row_index i
    obtain ⟨w, hw⟩ := ht b
    exact (Cert.ReferenceIdeal.Closed.logp_real hu01 hl hu b w hw).trans (Cert.KernelIdeal.Fold.result_logp m c hu01 hl hu b hw).symm
  · obtain ⟨b, rfl⟩ := row_index i
    exact (Cert.ReferenceIdeal.Closed.entropy_real hl b).trans (Cert.KernelIdeal.Fold.result_entropy m c hu01 hl hu b).symm

/-- The kernel and the reference end with equal results. -/
theorem algebraic : @Cert.algebraic_KernelIdeal_ReferenceIdeal_pre_drawn Cert.KernelIdeal.Gen.facts Cert.ReferenceIdeal.Gen.facts
    Cert.Drawn.facts := by
  haveI := Cert.Drawn.facts
  intro m g m' g' hpre hagree
  refine ⟨fun c => Cert.KernelIdeal.Value.G2 m c, fun c => Cert.KernelIdeal.Value.G3 m c, fun c => Cert.KernelIdeal.Value.G4 m c,
    Cert.KernelIdeal.Value.run m g, θ_run_mono (Cert.ReferenceIdeal.Run.run m' g') fun r h c => ?_⟩
  obtain ⟨h0, h1, h2, ha⟩ := h c
  obtain ⟨e0, e1, e2⟩ := results_eq m c (hpre c)
  rw [(hagree c).1, (hagree c).2] at h0 h1
  rw [(hagree c).1] at h2
  exact ⟨h0.trans e0, h1.trans e1, h2.trans e2, ha⟩

/-- Every claim of the certificate. -/
theorem claim : Cert.Claim := ⟨Cert.Kernel.Gen.facts, Cert.KernelIdeal.Gen.facts, Cert.ReferenceIdeal.Gen.facts, Cert.Drawn.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Run.frame m ρ, fun m ρ _ => Cert.ReferenceIdeal.Run.frame m ρ, trivial, algebraic⟩

end Cert.Proof

end
